-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S128x1024 : Shape := ⟨2, ![128, 1024]⟩
abbrev S7x128x1024 : Shape := ⟨3, ![7, 128, 1024]⟩
abbrev S8x128x1024 : Shape := ⟨3, ![8, 128, 1024]⟩
abbrev S7 : Shape := ⟨1, ![7]⟩
abbrev S8 : Shape := ⟨1, ![8]⟩
abbrev S_ : Shape := ⟨0, ![]⟩
abbrev S128x512 : Shape := ⟨2, ![128, 512]⟩
abbrev S1x128x1024 : Shape := ⟨3, ![1, 128, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S128x1024, .f32⟩
  | .local _ .vmem, ⟨0, _⟩ => ⟨S1024x512, .f32⟩
  | .local _ .vmem, ⟨1, _⟩ => ⟨S512x1024, .f32⟩
  | .local _ .vmem, ⟨2, _⟩ => ⟨S128x1024, .f32⟩
  | .local _ .vmem, ⟨3, _⟩ => ⟨S7x128x1024, .f32⟩
  | .local _ .vmem, ⟨4, _⟩ => ⟨S8x128x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c128_i32 : BitVec 32 := 128#32
  let v34 : BitVec 32 := Scalar.muli v33 c128_i32
  let v35 : Index := Scalar.indexCast v34
  let c0 : Index := 0#32
  ![v35.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_40 : BitVec 32 := 0#32
  let c0_i32_41 : BitVec 32 := 0#32
  ![v2.toNat, 0, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_38 : BitVec 32 := 1#32
  let v44 : BitVec 32 := Scalar.muli v33 c1_i32_38
  let v45 : BitVec 32 := Scalar.addi c0_i32_39 v44
  v45.toNat
def k0_dev9 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v54 : BitVec 32 := Scalar.addi v2 c2_i32_44
  let c8_i32_45 : BitVec 32 := 8#32
  let v55 : BitVec 32 := Scalar.remsi v54 c8_i32_45
  let c1_i32_55 : BitVec 32 := 1#32
  let v66 : BitVec 32 := Scalar.muli v55 c1_i32_55
  let v67 : BitVec 32 := Scalar.addi c0_i32_56 v66
  v67.toNat
def k0_dev10 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_61 : BitVec 32 := 3#32
  let v76 : BitVec 32 := Scalar.addi v2 c3_i32_61
  let c8_i32_62 : BitVec 32 := 8#32
  let v77 : BitVec 32 := Scalar.remsi v76 c8_i32_62
  let c1_i32_72 : BitVec 32 := 1#32
  let v88 : BitVec 32 := Scalar.muli v77 c1_i32_72
  let v89 : BitVec 32 := Scalar.addi c0_i32_73 v88
  v89.toNat
def k0_dev11 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_78 : BitVec 32 := 4#32
  let v98 : BitVec 32 := Scalar.addi v2 c4_i32_78
  let c8_i32_79 : BitVec 32 := 8#32
  let v99 : BitVec 32 := Scalar.remsi v98 c8_i32_79
  let c1_i32_89 : BitVec 32 := 1#32
  let v110 : BitVec 32 := Scalar.muli v99 c1_i32_89
  let v111 : BitVec 32 := Scalar.addi c0_i32_90 v110
  v111.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_95 : BitVec 32 := 5#32
  let v120 : BitVec 32 := Scalar.addi v2 c5_i32_95
  let c8_i32_96 : BitVec 32 := 8#32
  let v121 : BitVec 32 := Scalar.remsi v120 c8_i32_96
  let c1_i32_106 : BitVec 32 := 1#32
  let v132 : BitVec 32 := Scalar.muli v121 c1_i32_106
  let v133 : BitVec 32 := Scalar.addi c0_i32_107 v132
  v133.toNat
def k0_dev13 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_112 : BitVec 32 := 6#32
  let v142 : BitVec 32 := Scalar.addi v2 c6_i32_112
  let c8_i32_113 : BitVec 32 := 8#32
  let v143 : BitVec 32 := Scalar.remsi v142 c8_i32_113
  let c1_i32_123 : BitVec 32 := 1#32
  let v154 : BitVec 32 := Scalar.muli v143 c1_i32_123
  let v155 : BitVec 32 := Scalar.addi c0_i32_124 v154
  v155.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_129 : BitVec 32 := 7#32
  let v164 : BitVec 32 := Scalar.addi v2 c7_i32_129
  let c8_i32_130 : BitVec 32 := 8#32
  let v165 : BitVec 32 := Scalar.remsi v164 c8_i32_130
  let c1_i32_140 : BitVec 32 := 1#32
  let v176 : BitVec 32 := Scalar.muli v165 c1_i32_140
  let v177 : BitVec 32 := Scalar.addi c0_i32_141 v176
  v177.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_146 : BitVec 32 := 128#32
  let v186 : BitVec 32 := Scalar.muli v2 c128_i32_146
  let v187 : Index := Scalar.indexCast v186
  let c0_147 : Index := 0#32
  ![v187.toNat, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v194 : Index := Scalar.indexCast v2
  let c0_151 : Index := 0#32
  let c0_152 : Index := 0#32
  ![v194.toNat, 0, 0]
def k0_off6 (d0 : Dev nD) (c1_i32_153 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v198 : BitVec 32 := Scalar.addi v2 c1_i32_153
  let c8_i32_154 : BitVec 32 := 8#32
  let v199 : BitVec 32 := Scalar.remsi v198 c8_i32_154
  ![v199.toNat]
def k0_off7 (d0 : Dev nD) (c1_i32_153 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v198 : BitVec 32 := Scalar.addi v2 c1_i32_153
  let c8_i32_154 : BitVec 32 := 8#32
  let v199 : BitVec 32 := Scalar.remsi v198 c8_i32_154
  let c0_i32_159 : BitVec 32 := 0#32
  let c0_i32_160 : BitVec 32 := 0#32
  ![v199.toNat, 0, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x1024, .f32⟩
  | .hbm, ⟨2, _⟩ => ⟨S1024x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Peers.lean ====
/-
# The devices around one device

A device meets its seven peers in the order `c + 1, c + 2, …, c + 7` (modulo eight). This module names the peer at each
step, shows that stepping on and then stepping on by the complementary amount comes back, and splits a separating
conjunction over all eight devices into the part of one device and the parts of its seven peers.
-/
module

public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Peers

open Idealize.SL Idealize.SL.RA Idealize.SL.BI
open scoped Idealize.SL.BI
open Idealize.SL.BI.BIBase Idealize.SL.BI.Laws Idealize.SL.ProofMode Idealize.SL.Sem

/-- The peer a device meets at step `k`: the one `k + 1` places on. -/
def peer (c : Fin 8) (k : Fin 7) : Fin 8 := ⟨(c.val + k.val + 1) % 8, Nat.mod_lt _ (Nat.succ_pos 7)⟩

/-- Seen from the peer of step `k`, the device itself is the peer of the step counted from the other end. -/
theorem peer_peer_rev : ∀ (c : Fin 8) (k : Fin 7), peer (peer c k) k.rev = c := by decide
/-- No device is its own peer. -/
theorem peer_ne : ∀ (c : Fin 8) (k : Fin 7), peer c k ≠ c := by decide
/-- A device's peers at different steps differ. -/
theorem peer_injective (c : Fin 8) : Function.Injective (peer c) :=
  fun k k' => (by decide : ∀ (c : Fin 8) (k k' : Fin 7), peer c k = peer c k' → k = k') c k k'
/-- Device `d`'s peer at step `k` is `c` exactly when `d` is the peer of `c` at the complementary step. -/
theorem peer_eq_iff : ∀ (d c : Fin 8) (k : Fin 7), peer d k = c ↔ d = peer c k.rev := by decide
/-- Every other device is the peer of some step. -/
theorem exists_peer : ∀ c s : Fin 8, s ≠ c → ∃ k, peer c k = s := by decide

/-- A device and a step, seen from the other side: the peer and the complementary step. -/
def across : Fin 8 × Fin 7 ≃ Fin 8 × Fin 7 where
  toFun p := (peer p.1 p.2, p.2.rev)
  invFun p := (peer p.1 p.2, p.2.rev)
  left_inv p := Prod.ext (peer_peer_rev p.1 p.2) (Fin.rev_rev p.2)
  right_inv p := Prod.ext (peer_peer_rev p.1 p.2) (Fin.rev_rev p.2)

/-- The steps in program order. -/
abbrev steps : List (Fin 7) := [0, 1, 2, 3, 4, 5, 6]

variable {M : Type} [URA M]

/-- A separating conjunction over the seven steps, listed in program order. -/
theorem bigSep_steps (Φ : Fin 7 → sProp M) : bigSep Finset.univ Φ = bigSepL steps Φ :=
  bigSep_univ_eq_bigSepL steps (by decide) (by decide) Φ

/-- A separating conjunction over the eight devices is one device's part and its seven peers' parts. -/
theorem bigSep_device_peers (c : Fin 8) (Φ : Fin 8 → sProp M) :
    bigSep Finset.univ Φ = iprop(Φ c ∗ bigSep Finset.univ fun k : Fin 7 => Φ (peer c k)) := by
  have hu : (Finset.univ : Finset (Fin 8)) = insert c (Finset.univ.map ⟨peer c, peer_injective c⟩) := by
    revert c; decide
  rw [hu, bigSep_insert (by
    intro h
    obtain ⟨k, -, hk⟩ := Finset.mem_map.mp h
    exact peer_ne c k hk), bigSep_map]
  rfl

/-- A separating conjunction over device and step may be taken from the other side. -/
theorem bigSep_across (Φ : Fin 8 × Fin 7 → sProp M) :
    (bigSep Finset.univ fun c : Fin 8 => bigSep Finset.univ fun k : Fin 7 => Φ (c, k))
      = bigSep Finset.univ fun c : Fin 8 => bigSep Finset.univ fun k : Fin 7 => Φ (peer c k, k.rev) := by
  rw [← bigSep_univ_prod Φ, bigSep_univ_equiv across Φ, bigSep_univ_prod]
  rfl

end Cert.Peers

end
-- ==== Proof.KernelIdeal.Protocol.lean ====
/-
# The exchange: who sends what to whom, and when

Every device cuts its share of the product into eight blocks of 128 rows, one for each device, and sends each peer that
peer's block. Before any block leaves, each device tells every peer that it has entered the kernel, and waits to be told so by
all seven. This module states the semaphore cells, what each device owes at the start, what each cell's payments hand
over, and what the two scratch buffers hold once the blocks are in place.
-/
module

public import proofs.«01_k».proof.Proof.Peers
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Exchange

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the staging pipeline's and the exchange's, side by side -/

abbrev UE : Type := URounds (GSem nD τ sig) (Fin 7)
abbrev UU : Type := UR sig nD τ × UE

local notation "𝕄" => MT nD τ sig Unit (Elt F) ℕ UU ℕ

abbrev EP : Emb (UR sig nD τ) (MT nD τ sig Unit (Elt F) ℕ UU ℕ) := embL
abbrev EX : Emb UE (MT nD τ sig Unit (Elt F) ℕ UU ℕ) := embR

variable (m : (ℓ : Loc nD τ sig) → Buf (Elt F) ℓ)

/-! ## Buffers and their slots -/

abbrev aM : Memref sig .tc .vmem S1024x512 .f32 := Memref.whole cc0_stg0_0
abbrev bM : Memref sig .tc .vmem S512x1024 .f32 := Memref.whole cc0_stg1_0
abbrev oM : Memref sig .tc .vmem S128x1024 .f32 := Memref.whole cc0_stg2_0
abbrev sM : Memref sig .tc .vmem S7x128x1024 .f32 := Memref.whole cc0_scratch0
abbrev rM : Memref sig .tc .vmem S8x128x1024 .f32 := Memref.whole cc0_scratch1

theorem aInb : ∀ (j : Fin 8) (a), (![128 * j.val, 0] : Fin 2 → Nat) a + S128x512.size a ≤ S1024x512.size a := by decide
theorem sInb : ∀ (k : Fin 7) (a), (![k.val, 0, 0] : Fin 3 → Nat) a + S1x128x1024.size a ≤ S7x128x1024.size a := by decide
theorem rInb : ∀ (s : Fin 8) (a), (![s.val, 0, 0] : Fin 3 → Nat) a + S1x128x1024.size a ≤ S8x128x1024.size a := by decide

/-- The 128 rows of the left operand that make device `j`'s block. -/
abbrev aRect (j : Fin 8) : Rect S1024x512 := Rect.unit (s := S1024x512) ![128 * j.val, 0] S128x512.size (aInb j)
abbrev bRect : Rect S512x1024 := Rect.unit (s := S512x1024) ![0, 0] S512x1024.size inb_S512x1024_S512x1024_0_0
abbrev oRect : Rect S128x1024 := Rect.unit (s := S128x1024) ![0, 0] S128x1024.size inb_S128x1024_S128x1024_0_0
/-- Slot `k` of the outgoing buffer, slot `s` of the incoming one. -/
abbrev sRect (k : Fin 7) : Rect S7x128x1024 := Rect.unit (s := S7x128x1024) ![k.val, 0, 0] S1x128x1024.size (sInb k)
abbrev rRect (s : Fin 8) : Rect S8x128x1024 := Rect.unit (s := S8x128x1024) ![s.val, 0, 0] S1x128x1024.size (rInb s)

/-- The slots as the transfers name them, without the leading axis of size one. -/
abbrev sSlot (k : Fin 7) : Memref sig .tc .vmem S128x1024 .f32 :=
  (sM.slice (sRect k) (fun _ => rfl)).squeeze S128x1024 squeezes_S1x128x1024_S128x1024
abbrev rSlot (s : Fin 8) : Memref sig .tc .vmem S128x1024 .f32 :=
  (rM.slice (rRect s) (fun _ => rfl)).squeeze S128x1024 squeezes_S1x128x1024_S128x1024

/-! ## Semaphore cells -/

/-- The barrier semaphore, the one an outgoing slot's transfer reports to, the one an incoming slot's transfer reports to. -/
abbrev barS : Sem sig := (SemArray.scalar (sig.barrier 0 rfl) : Sems sig S_).sem
def sendS (k : Fin 7) : DmaSem sig := (⟨3 + k.val, by have := k.isLt; omega⟩ : Fin 18)
def recvS (s : Fin 8) : DmaSem sig := (⟨10 + s.val, by have := s.isLt; omega⟩ : Fin 18)

abbrev barCell (c : Dev nD) : GSem nD τ sig := ((c : Thread nD τ), .reg barS)
abbrev sendCell (c : Dev nD) (k : Fin 7) : GSem nD τ sig := ((c : Thread nD τ), .dma (sendS k))
abbrev recvCell (c : Dev nD) (s : Fin 8) : GSem nD τ sig := ((c : Thread nD τ), .dma (recvS s))

/-- The outgoing semaphore array names `sendS` slot by slot, the incoming one `recvS`. -/
theorem sendS_eq : ∀ k : Fin 7, ∀ h, ((cc0_scratch2.slice (Rect.unit (s := S7) ![k.val] S1.size h)).squeeze S_ squeezes_S1_S_).sem = sendS k := by
  decide
theorem recvS_eq : ∀ s : Fin 8, ∀ h, ((cc0_scratch3.slice (Rect.unit (s := S8) ![s.val] S1.size h)).squeeze S_ squeezes_S1_S_).sem = recvS s := by
  decide

/-- What one block's transfer adds to each semaphore it reports to. -/
def N : ℕ := RefSig.tileCredit S128x1024 .f32
theorem N_pos : 0 < N := RefSig.tileCredit_pos S128x1024 .f32 (by decide)
/-- Every view of a block's shape counts that much. -/
theorem credit_eq (v : Memref sig .tc .vmem S128x1024 .f32) : v.view.dmaCredit = N := rfl

/-! ## Contents -/

/-- Device `c`'s operands as staged. -/
def aStg (c : Dev nD) : (cc0_stg0_0 : Ref sig .tc).ty.Contents (Elt F) :=
  (win0_0.blk t0_0).view.read (Elt F) (m ((c : Thread nD τ).loc main_arg0))
def bStg (c : Dev nD) : (cc0_stg1_0 : Ref sig .tc).ty.Contents (Elt F) :=
  (win0_1.blk t0_0).view.read (Elt F) (m ((c : Thread nD τ).loc main_arg1))

/-- The rows of device `j`'s left operand that make device `c`'s block. -/
def aRows (j c : Dev nD) : Vec F S128x512 .f32 := aM.view.readAt (Elt F) (aRect c).toLoadRect (aStg m j)
/-- What device `j` contributes to device `c`'s block of the result. -/
def part (j c : Dev nD) : FVec F S1x128x1024 .f32 := k0_pay1 (aRows m j c) (bStg m j)

/-- An index of a three-axis buffer, seen within its slot. -/
def inSlot (x : Fin 128) (y : Fin 1024) : S1x128x1024.Idx := fun | 0 => (0 : Fin 1) | 1 => x | 2 => y

/-- The outgoing buffer once filled: slot `k` holds the contribution for the peer of step `k`. -/
def sentAll (c : Dev nD) : (cc0_scratch0 : Ref sig .tc).ty.Contents (Elt F) :=
  fun i : S7x128x1024.Idx => part m c (peer c (i 0)) (inSlot (i 1) (i 2))
/-- The incoming buffer once filled: slot `s` holds device `s`'s contribution. -/
def gotAll (c : Dev nD) : (cc0_scratch1 : Ref sig .tc).ty.Contents (Elt F) :=
  fun i : S8x128x1024.Idx => part m (i 0) c (inSlot (i 1) (i 2))

theorem sentAll_emb (c : Dev nD) (k : Fin 7) (y : S1x128x1024.Idx) : sentAll m c ((sRect k).emb y) = part m c (peer c k) y := by
  have h0 : ((sRect k).emb y : S7x128x1024.Idx) 0 = k := Fin.ext (by
    have : (y 0).val = 0 := by have := (y 0).isLt; simpa using this
    show k.val + 1 * (y 0).val = k.val; omega)
  have h1 : inSlot (((sRect k).emb y : S7x128x1024.Idx) 1) (((sRect k).emb y : S7x128x1024.Idx) 2) = y := by
    funext a
    match a with
    | 0 => exact Fin.ext (by have := (y 0).isLt; show 0 = (y 0).val; simp at this; omega)
    | 1 => exact Fin.ext (by show 0 + 1 * (y 1).val = (y 1).val; omega)
    | 2 => exact Fin.ext (by show 0 + 1 * (y 2).val = (y 2).val; omega)
  unfold sentAll
  rw [h0, h1]

theorem gotAll_emb (c : Dev nD) (s : Fin 8) (y : S1x128x1024.Idx) : gotAll m c ((rRect s).emb y) = part m s c y := by
  have h0 : ((rRect s).emb y : S8x128x1024.Idx) 0 = s := Fin.ext (by
    have : (y 0).val = 0 := by have := (y 0).isLt; simpa using this
    show s.val + 1 * (y 0).val = s.val; omega)
  have h1 : inSlot (((rRect s).emb y : S8x128x1024.Idx) 1) (((rRect s).emb y : S8x128x1024.Idx) 2) = y := by
    funext a
    match a with
    | 0 => exact Fin.ext (by have := (y 0).isLt; show 0 = (y 0).val; simp at this; omega)
    | 1 => exact Fin.ext (by show 0 + 1 * (y 1).val = (y 1).val; omega)
    | 2 => exact Fin.ext (by show 0 + 1 * (y 2).val = (y 2).val; omega)
  unfold gotAll
  rw [h0, h1]

/-! ## One slot, held -/

/-- Device `c`'s outgoing slot `k`, held at `f`; its incoming slot `s`, held at `f`. -/
def sPts (c : Dev nD) (k : Fin 7) (f : Buf (Elt F) ((c : Thread nD τ).loc cc0_scratch0)) : sProp 𝕄 :=
  ((c : Thread nD τ).loc cc0_scratch0) ↦[(sRect k).set]{fullShare} f
def rPts (c : Dev nD) (s : Fin 8) (f : Buf (Elt F) ((c : Thread nD τ).loc cc0_scratch1)) : sProp 𝕄 :=
  ((c : Thread nD τ).loc cc0_scratch1) ↦[(rRect s).set]{fullShare} f

instance sPts_storable (c : Dev nD) (k) (f) : BI.Storable (upEmb : UEmb _ 𝕄) (sPts (F := F) c k f) := by unfold sPts; infer_instance
instance rPts_storable (c : Dev nD) (s) (f) : BI.Storable (upEmb : UEmb _ 𝕄) (rPts (F := F) c s f) := by unfold rPts; infer_instance

theorem sSlot_set (k : Fin 7) : (sSlot k).view.set = (sRect k).set := by
  show ((View.slice (View.whole cc0_scratch0) (sRect k)).reshape _ _).set = _
  rw [View.set_reshape]; exact View.set_slice_whole _ _
theorem rSlot_set (s : Fin 8) : (rSlot s).view.set = (rRect s).set := by
  show ((View.slice (View.whole cc0_scratch1) (rRect s)).reshape _ _).set = _
  rw [View.set_reshape]; exact View.set_slice_whole _ _

theorem sPts_view (c : Dev nD) (k : Fin 7) (f : Buf (Elt F) ((c : Thread nD τ).loc cc0_scratch0)) :
    sPts c k f = ((sSlot k).view.loc (c : Thread nD τ) ↦[(sSlot k).view.set]{fullShare} f : sProp 𝕄) := by unfold sPts; rw [sSlot_set]
theorem rPts_view (c : Dev nD) (s : Fin 8) (f : Buf (Elt F) ((c : Thread nD τ).loc cc0_scratch1)) :
    rPts c s f = ((rSlot s).view.loc (c : Thread nD τ) ↦[(rSlot s).view.set]{fullShare} f : sProp 𝕄) := by unfold rPts; rw [rSlot_set]

/-- Slots of one buffer at different numbers do not meet, and together they are the buffer. -/
theorem sRect_disjoint (k k' : Fin 7) (h : k ≠ k') : Disjoint (sRect k).set (sRect k').set :=
  Finset.disjoint_left.mpr fun i hi hi' => h (Fin.ext (by
    have h1 := (Rect.mem_set_unit.mp hi) 0
    have h2 := (Rect.mem_set_unit.mp hi') 0
    simp at h1 h2; omega))
theorem rRect_disjoint (s s' : Fin 8) (h : s ≠ s') : Disjoint (rRect s).set (rRect s').set :=
  Finset.disjoint_left.mpr fun i hi hi' => h (Fin.ext (by
    have h1 := (Rect.mem_set_unit.mp hi) 0
    have h2 := (Rect.mem_set_unit.mp hi') 0
    simp at h1 h2; omega))
theorem sRect_cover : (Finset.univ : Finset (Fin 7)).biUnion (fun k => (sRect k).set) = (Finset.univ : Finset S7x128x1024.Idx) := by
  refine Finset.eq_univ_iff_forall.mpr fun i => Finset.mem_biUnion.mpr ⟨i 0, Finset.mem_univ _, Rect.mem_set_unit.mpr fun a => ?_⟩
  have := (i a).isLt
  fin_cases a <;> simp at this ⊢ <;> omega
theorem rRect_cover : (Finset.univ : Finset (Fin 8)).biUnion (fun k => (rRect k).set) = (Finset.univ : Finset S8x128x1024.Idx) := by
  refine Finset.eq_univ_iff_forall.mpr fun i => Finset.mem_biUnion.mpr ⟨i 0, Finset.mem_univ _, Rect.mem_set_unit.mpr fun a => ?_⟩
  have := (i a).isLt
  fin_cases a <;> simp at this ⊢ <;> omega

/-- The outgoing buffer held whole is its seven slots held, at the same contents. -/
theorem sPts_all (c : Dev nD) (f : Buf (Elt F) ((c : Thread nD τ).loc cc0_scratch0)) :
    (((c : Thread nD τ).loc cc0_scratch0) ↦{fullShare} f : sProp 𝕄) = bigSep Finset.univ fun k => sPts c k f := by
  unfold sPts
  rw [← pointsTo_biUnion (ℓ := (c : Thread nD τ).loc cc0_scratch0) Finset.univ (fun k : Fin 7 => (sRect k).set)
    fun k _ k' _ h => sRect_disjoint k k' h]
  exact congrArg (fun S => (((c : Thread nD τ).loc cc0_scratch0) ↦[S]{fullShare} f : sProp 𝕄)) sRect_cover.symm
/-- The incoming buffer held whole is its eight slots held, at the same contents. -/
theorem rPts_all (c : Dev nD) (f : Buf (Elt F) ((c : Thread nD τ).loc cc0_scratch1)) :
    (((c : Thread nD τ).loc cc0_scratch1) ↦{fullShare} f : sProp 𝕄) = bigSep Finset.univ fun s => rPts c s f := by
  unfold rPts
  rw [← pointsTo_biUnion (ℓ := (c : Thread nD τ).loc cc0_scratch1) Finset.univ (fun s : Fin 8 => (rRect s).set)
    fun k _ k' _ h => rRect_disjoint k k' h]
  exact congrArg (fun S => (((c : Thread nD τ).loc cc0_scratch1) ↦[S]{fullShare} f : sProp 𝕄)) rRect_cover.symm

/-- A slot just stored with a contribution holds what the filled buffer holds there. -/
theorem sPts_stored (c : Dev nD) (k : Fin 7) (f : Buf (Elt F) ((c : Thread nD τ).loc cc0_scratch0)) :
    ((sM.access (sRect k)).loc (c : Thread nD τ) ↦[(sRect k).set]{fullShare} (sM.access (sRect k)).write (Elt F) f (part m c (peer c k)) Finset.univ : sProp 𝕄)
      = sPts c k (sentAll m c) := by
  unfold sPts
  refine pointsTo_congr fun i hi => ?_
  obtain ⟨y, -, rfl⟩ := Finset.mem_map.mp ((Rect.map_emb_univ (sRect k)).symm ▸ hi)
  rw [sentAll_emb]
  exact View.write_emb_of_mem (v := sM.access (sRect k)) f _ (Finset.mem_univ y)
theorem rPts_stored (c : Dev nD) (s : Fin 8) (f : Buf (Elt F) ((c : Thread nD τ).loc cc0_scratch1)) :
    ((rM.access (rRect s)).loc (c : Thread nD τ) ↦[(rRect s).set]{fullShare} (rM.access (rRect s)).write (Elt F) f (part m s c) Finset.univ : sProp 𝕄)
      = rPts c s (gotAll m c) := by
  unfold rPts
  refine pointsTo_congr fun i hi => ?_
  obtain ⟨y, -, rfl⟩ := Finset.mem_map.mp ((Rect.map_emb_univ (rRect s)).symm ▸ hi)
  rw [gotAll_emb]
  exact View.write_emb_of_mem (v := rM.access (rRect s)) f _ (Finset.mem_univ y)

/-- Device `c`'s outgoing slot `k`, landed in its peer's incoming slot `c`, is what the peer's filled buffer holds there. -/
theorem rPts_landed (c : Dev nD) (k : Fin 7) (f : Buf (Elt F) ((peer c k : Thread nD τ).loc cc0_scratch1)) :
    rPts (peer c k) c ((rSlot c).view.write (Elt F) f ((sSlot k).view.read (Elt F) (sentAll m c)) Finset.univ)
      = rPts (peer c k) c (gotAll m (peer c k)) := by
  unfold rPts
  refine pointsTo_congr fun i hi => ?_
  rw [← rSlot_set] at hi
  obtain ⟨x, -, rfl⟩ := Finset.mem_map.mp hi
  refine (View.write_emb_of_mem (v := (rSlot c).view) f _ (Finset.mem_univ x)).trans ?_
  exact (sentAll_emb m c k _).trans (gotAll_emb m (peer c k) c _).symm

end Cert.KernelIdeal.Exchange

end
-- ==== Proof.KernelIdeal.Schedule.lean ====
/-
# The exchange's schedule

Every semaphore cell is used for one round. A barrier cell's round is seven units, one from each peer, each handing over the slot
of that peer's incoming buffer that this device will fill. A transfer's two cells each take the block's credit once: the
sender's gives its outgoing slot back, the receiver's hands over the filled incoming slot.
-/
module

public import proofs.«01_k».proof.Proof.KernelIdeal.Protocol

@[expose] public section

noncomputable section

namespace Cert.KernelIdeal.Exchange

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Payments -/

/-- What `peer c j` hands `c` when it reports at `c`'s barrier: slot `c` of its own incoming buffer, with whatever it holds. -/
def barPay (c : Dev nD) (j : Fin 7) : sProp 𝕄 := iprop(∃ f, rPts (peer c j) c f)

/-- What a transfer's cell number `q` on device `c` hands over: a sent slot back, or a filled incoming slot. -/
def dmaPay (c : Dev nD) (q : DmaSem sig) : sProp 𝕄 :=
  if h : 3 ≤ q.val ∧ q.val < 10 then sPts c ⟨q.val - 3, by omega⟩ (sentAll m c)
  else if h : 10 ≤ q.val then rPts c ⟨q.val - 10, by have : q.val < 18 := q.isLt; omega⟩ (gotAll m c)
  else iprop(emp)

/-- The cell of a transfer that is made: an outgoing slot's, or an incoming slot's other than the device's own. -/
abbrev Used (c : Dev nD) (q : DmaSem sig) : Prop := 3 ≤ q.val ∧ q.val ≠ 10 + c.val

def sched : Rounds.Schedule (GSem nD τ sig) (Fin 7) 𝕄 where
  duties g r := if r = 0 ∧ g.1.2 = .tc then (match g.2 with
    | .reg _ => Finset.univ
    | .dma q => if Used g.1.1 q then {0} else ∅) else ∅
  unitless _ := False
  amount g _ _ := match g.2 with
    | .reg _ => 1
    | .dma _ => N
  payload g _ d := match g.2 with
    | .reg _ => barPay g.1.1 d
    | .dma q => dmaPay m g.1.1 q
  amount_pos g _ _ _ := by
    rcases g with ⟨_, _ | _⟩
    · exact Nat.one_pos
    · exact N_pos

instance sched_payload_storable (g : GSem nD τ sig) (r : ℕ) (d : Fin 7) :
    BI.Storable (upEmb : UEmb _ 𝕄) ((sched (F := F) m).payload g r d) := by
  rcases g with ⟨t, _ | q⟩
  · show BI.Storable upEmb (barPay t.1 d); unfold barPay; infer_instance
  · show BI.Storable upEmb (dmaPay m t.1 q); unfold dmaPay; (repeat' split) <;> infer_instance

section Cells
variable (c : Dev nD) (k : Fin 7)

theorem used_send (c : Dev nD) (k : Fin 7) : Used c (sendS k) := by revert c k; decide
theorem used_recv (c : Dev nD) (k : Fin 7) : Used c (recvS (peer c k)) := by revert c k; decide
theorem not_used_own (c : Dev nD) : ¬ Used c (recvS c) := by revert c; decide

theorem duties_bar : (sched (F := F) m).duties (barCell c) 0 = Finset.univ :=
  show (if (0 : ℕ) = 0 ∧ ((c : Thread nD τ)).2 = .tc then (Finset.univ : Finset (Fin 7)) else ∅) = Finset.univ from if_pos ⟨rfl, rfl⟩
theorem duties_used (q : DmaSem sig) (h : Used c q) : (sched (F := F) m).duties ((c : Thread nD τ), .dma q) 0 = {0} := by
  show (if (0 : ℕ) = 0 ∧ ((c : Thread nD τ)).2 = .tc then (if Used c q then ({0} : Finset (Fin 7)) else ∅) else ∅) = {0}
  rw [if_pos ⟨rfl, rfl⟩, if_pos h]
theorem duties_send : (sched (F := F) m).duties (sendCell c k) 0 = {0} := duties_used m c _ (used_send c k)
theorem duties_recv : (sched (F := F) m).duties (recvCell c (peer c k)) 0 = {0} := duties_used m c _ (used_recv c k)
theorem duties_own (r : ℕ) : (sched (F := F) m).duties (recvCell c c) r = ∅ := by
  show (if _ then (if Used c (recvS c) then ({0} : Finset (Fin 7)) else ∅) else ∅) = ∅
  rw [if_neg (not_used_own c), ite_self]
theorem duties_later (g : GSem nD τ sig) : ∀ r, 1 ≤ r → (sched (F := F) m).duties g r = ∅ :=
  fun r hr => if_neg fun h => by omega

theorem amount_bar (d : Fin 7) : (sched (F := F) m).amount (barCell c) 0 d = 1 := rfl
theorem amount_dma (q : DmaSem sig) (d : Fin 7) : (sched (F := F) m).amount ((c : Thread nD τ), .dma q) 0 d = N := rfl

theorem expect_bar : (sched (F := F) m).expect (barCell c) 0 = 7 := by
  unfold Schedule.expect Schedule.amountOf
  rw [duties_bar, Finset.sum_congr rfl fun d _ => amount_bar m c d]; rfl
theorem expect_send : (sched (F := F) m).expect (sendCell c k) 0 = N := by
  unfold Schedule.expect Schedule.amountOf; rw [duties_send, Finset.sum_singleton, amount_dma]
theorem expect_recv : (sched (F := F) m).expect (recvCell c (peer c k)) 0 = N := by
  unfold Schedule.expect Schedule.amountOf; rw [duties_recv, Finset.sum_singleton, amount_dma]

theorem payload_bar (d : Fin 7) : (sched (F := F) m).payload (barCell c) 0 d = barPay c d := rfl
theorem payload_send (d : Fin 7) : (sched (F := F) m).payload (sendCell c k) 0 d = sPts c k (sentAll m c) := by
  show dmaPay m c (sendS k) = _
  unfold dmaPay sendS
  rw [dif_pos ⟨Nat.le_add_right 3 k.val, by have := k.isLt; show 3 + k.val < 10; omega⟩]
  exact congrArg (fun i => sPts c i (sentAll m c)) (Fin.ext (Nat.add_sub_cancel_left 3 k.val))
theorem payload_recv (s : Fin 8) (d : Fin 7) : (sched (F := F) m).payload (recvCell c s) 0 d = rPts c s (gotAll m c) := by
  show dmaPay m c (recvS s) = _
  unfold dmaPay recvS
  rw [dif_neg (fun h => by have := h.2; simp at this), dif_pos (Nat.le_add_right 10 s.val)]
  exact congrArg (fun i => rPts c i (gotAll m c)) (Fin.ext (Nat.add_sub_cancel_left 10 s.val))

/-- What a barrier wait, a wait for a sent slot, a wait for an incoming slot come back with. -/
theorem rest_bar : bigSep ((sched (F := F) m).duties (barCell c) 0 \ ∅) (fun d => (sched (F := F) m).payload (barCell c) 0 d)
    = bigSep Finset.univ (barPay (F := F) c) := by
  rw [Finset.sdiff_empty, duties_bar]; rfl
theorem rest_send : bigSep ((sched (F := F) m).duties (sendCell c k) 0 \ ∅) (fun d => (sched (F := F) m).payload (sendCell c k) 0 d)
    = sPts c k (sentAll m c) := by
  rw [Finset.sdiff_empty, duties_send, bigSep_singleton, payload_send]
theorem rest_recv : bigSep ((sched (F := F) m).duties (recvCell c (peer c k)) 0 \ ∅) (fun d => (sched (F := F) m).payload (recvCell c (peer c k)) 0 d)
    = rPts c (peer c k) (gotAll m c) := by
  rw [Finset.sdiff_empty, duties_recv, bigSep_singleton, payload_recv]

end Cells

/-! ## What a device owes, and in which order waits are allowed -/

/-- Device `c` still owes: the block's credit to the incoming cells of the peers of the steps `l`, a barrier unit to those of `l'`. -/
def owed (c : Dev nD) (l l' : List (Fin 7)) : CellTallies nD τ sig Unit :=
  (l.map fun k => tallyAt (recvCell (peer c k) c) () N).sum + (l'.map fun k => tallyAt (barCell (peer c k)) () 1).sum

/-- One signal settles the first barrier unit owed, one transfer the first block's credit. -/
theorem owed_signal (c : Dev nD) (l l' : List (Fin 7)) (k : Fin 7) :
    owed c l (k :: l') = owed c l l' + tallyAt (barCell (peer c k)) () 1 := by
  unfold owed
  rw [List.map_cons, List.sum_cons, add_comm (tallyAt (barCell (peer c k)) () 1), ← add_assoc]
theorem owed_send (c : Dev nD) (l l' : List (Fin 7)) (k : Fin 7) :
    owed c (k :: l) l' = owed c l l' + tallyAt (recvCell (peer c k) c) () N := by
  unfold owed
  rw [List.map_cons, List.sum_cons, add_assoc, add_comm (tallyAt (recvCell (peer c k) c) () N)]
theorem owed_nil (c : Dev nD) : owed c [] [] = 0 := by unfold owed; simp

def L (g : GSem nD τ sig) : Finset Unit := if g.1.2 = .tc then {()} else ∅
/-- The order of waits: a barrier wait may leave incoming blocks owed; a wait for staging may leave anything owed. -/
def lv (g : GSem nD τ sig) (_ : Unit) : ℕ := match g.2 with
  | .reg _ => 1
  | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- A positive sum of tallies has a positive one in the list it sums. -/
theorem exists_of_sum_pos {I : Type} (l : List I) (G : I → GSem nD τ sig) (n : ℕ) {g : GSem nD τ sig} {u : Unit}
    (h : 0 < (l.map fun k => (tallyAt (G k) () n : CellTallies nD τ sig Unit)).sum g u) : ∃ k, g = G k := by
  induction l with
  | nil => exact absurd h (Nat.lt_irrefl 0)
  | cons k l ih =>
    rw [List.map_cons, List.sum_cons, Pi.add_apply, Finsupp.add_apply, tallyAt_apply] at h
    by_cases hk : g = G k ∧ u = ()
    · exact ⟨k, hk.1⟩
    · rw [if_neg hk, Nat.zero_add] at h; exact ih h

theorem owed_pos {c : Dev nD} {l l' : List (Fin 7)} {g : GSem nD τ sig} {u : Unit} (h : 0 < owed c l l' g u) :
    (∃ k, g = recvCell (peer c k) c) ∨ (l' ≠ [] ∧ ∃ k, g = barCell (peer c k)) := by
  unfold owed at h
  rw [Pi.add_apply, Finsupp.add_apply] at h
  rcases Nat.eq_zero_or_pos ((l.map fun k => (tallyAt (recvCell (peer c k) c) () N : CellTallies nD τ sig Unit)).sum g u) with h0 | h0
  · rw [h0, Nat.zero_add] at h
    refine .inr ⟨?_, exists_of_sum_pos l' _ 1 h⟩
    rintro rfl; exact absurd h (Nat.lt_irrefl 0)
  · exact .inl (exists_of_sum_pos l _ N h0)

theorem owed_mem_L {c : Dev nD} {l l' : List (Fin 7)} {g : GSem nD τ sig} {u : Unit} (h : 0 < owed c l l' g u) : u ∈ L g := by
  rcases owed_pos h with ⟨k, rfl⟩ | ⟨-, k, rfl⟩ <;> exact Finset.mem_singleton_self _

/-- A device may wait for its staging copies whatever it owes. -/
theorem mayWait_stage (c : Dev nD) (q : DmaSem sig) (hq : q.val < 10) (l l' : List (Fin 7)) :
    (levAts L lv : sProp 𝕄) ⊢ MayWait (c : Thread nD τ) (.dma q) () (owed c l l') :=
  MayOwe.of_cut (L := L) (lev := lv) 0 (fun p hp => by rw [Finset.mem_singleton.mp hp, L_tc]; exact Finset.mem_singleton_self _)
    (fun g u hg => owed_mem_L hg)
    (fun p hp => by rw [Finset.mem_singleton.mp hp]; exact le_of_eq (if_neg (by omega)))
    (fun g u hg => by
      rcases owed_pos hg with ⟨k, rfl⟩ | ⟨-, k, rfl⟩
      · show 0 < if 10 ≤ 10 + c.val then 2 else 0
        rw [if_pos (Nat.le_add_right _ _)]; decide
      · exact Nat.one_pos)

/-- At its barrier wait a device owes incoming blocks only, and may wait. -/
theorem mayWait_bar (c : Dev nD) (l : List (Fin 7)) :
    (levAts L lv : sProp 𝕄) ⊢ MayWait (c : Thread nD τ) (.reg barS) () (owed c l []) :=
  MayOwe.of_cut (L := L) (lev := lv) 1 (fun p hp => by rw [Finset.mem_singleton.mp hp, L_tc]; exact Finset.mem_singleton_self _)
    (fun g u hg => owed_mem_L hg)
    (fun p hp => by rw [Finset.mem_singleton.mp hp]; exact le_refl 1)
    (fun g u hg => by
      rcases owed_pos hg with ⟨k, rfl⟩ | ⟨h, -⟩
      · show 1 < if 10 ≤ 10 + c.val then 2 else 0
        rw [if_pos (Nat.le_add_right _ _)]; decide
      · exact absurd rfl h)

/-! ## The cells, numbered -/

/-- A device's sixteen cells: the barrier, then the transfers' in the order of their numbers. -/
def csem : Fin 16 → SemLoc sig := fun i => if h : i = 0 then .reg barS else .dma (⟨2 + i.val, by have := i.isLt; omega⟩ : Fin 18)
abbrev kcell (ck : Dev nD × Fin 16) : GSem nD τ sig := ((ck.1 : Thread nD τ), csem ck.2)

def sendIx (k : Fin 7) : Fin 16 := ⟨1 + k.val, by have := k.isLt; omega⟩
def recvIx (s : Fin 8) : Fin 16 := ⟨8 + s.val, by have := s.isLt; omega⟩
theorem csem_bar : csem 0 = .reg barS := dif_pos rfl
theorem csem_send : ∀ k, csem (sendIx k) = .dma (sendS k) := by decide
theorem csem_recv : ∀ s, csem (recvIx s) = .dma (recvS s) := by decide
theorem csem_injective : Function.Injective csem := fun i j => (by decide : ∀ i j, csem i = csem j → i = j) i j

/-- What every device may use at any time: every cell's invariant, and that every cell has reached its round. -/
def records (K : Dev nD × Fin 16 → ℕ) : sProp 𝕄 :=
  iprop((bigSep Finset.univ fun ck => cellInv EX (sched m) (K ck) (kcell ck)) ∗ bigSep Finset.univ fun ck => reached EX (kcell ck) 0)

instance records_persistent (K : Dev nD × Fin 16 → ℕ) : BI.Persistent (records (F := F) m K) := by unfold records; infer_instance

theorem records_cell (K : Dev nD × Fin 16 → ℕ) (c : Dev nD) (i : Fin 16) (sm : SemLoc sig) (h : csem i = sm) :
    records (F := F) m K ⊢ iprop(cellInv EX (sched m) (K (c, i)) ((c : Thread nD τ), sm) ∗ reached EX ((c : Thread nD τ), sm) 0) := by
  subst h
  exact BI.sep_mono (bigSep_elim (Φ := fun ck => cellInv EX (sched m) (K ck) (kcell ck)) (Finset.mem_univ (c, i)))
    (bigSep_elim (Φ := fun ck => (reached EX (kcell ck) 0 : sProp 𝕄)) (Finset.mem_univ (c, i)))

end Cert.KernelIdeal.Exchange

end
-- ==== Proof.KernelIdeal.Steps.lean ====
/-
# One step of each kind

The kernel makes the same few steps seven times over: report at a peer's barrier, compute and send a peer's block, wait
for a peer's block, wait for a sent block. Each kind of step is proved here once, for any step number, between two
statements of what the device holds: the steps still to make and the steps made.
-/
module

public import proofs.«01_k».proof.Proof.KernelIdeal.Schedule

@[expose] public section

noncomputable section

namespace Cert.KernelIdeal.Exchange

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program `p`, run by device `c` in the kernel's context to the end `Q`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- Device `c` owes `O`, whatever it has waited for. -/
def owing (c : Dev nD) (O : CellTallies nD τ sig Unit) : sProp 𝕄 := iprop(∃ W, owes (c : Thread nD τ) O W)

/-- A staging buffer of device `c`, held at `f`. -/
abbrev held (c : Dev nD) (b : Ref sig .tc) (f : Buf (Elt F) ((c : Thread nD τ).loc b)) : sProp 𝕄 := ((c : Thread nD τ).loc b) ↦{fullShare} f
/-- Device `c`'s two operands, as staged. -/
def operands (c : Dev nD) : sProp 𝕄 := iprop(held c cc0_stg0_0 (aStg m c) ∗ held c cc0_stg1_0 (bStg m c))

section Steps
variable (K : Dev nD × Fin 16 → ℕ) (c : Dev nD)

/-! ## Reporting at the barriers -/

/-- Device `c` has still to report at the barriers of the peers of the steps `l`. -/
def entering (l : List (Fin 7)) : sProp 𝕄 :=
  iprop(records m K ∗ owing c (owed c steps l)
    ∗ bigSepL l fun k => iprop(dutyTok EX (barCell (peer c k)) 0 k.rev ∗ ∃ f, rPts c (peer c k) f))

/-- Reporting at the barrier of the peer of step `k`. -/
theorem report (k : Fin 7) (l : List (Fin 7)) (n : Dev nD) (hn : n = peer c k) (u : ℕ) (hu : 1 = u)
    (kt : PUnit → Prog (TpuEff nD τ sig (Elt F) Λ₀ .tc) PUnit) (Q : PUnit → sProp 𝕄) :
    entering m K c (k :: l)
      ⊢ iprop((entering m K c l -∗ runs c (kt ⟨⟩) Q) -∗ runs c (.op (.semSignal (Dev.tc n) barS u) kt) Q) := by
  subst hn hu
  unfold entering owing
  rw [bigSepL_cons']
  iintro ⟨#Hrec, ⟨%W, HO⟩, ⟨Ht, Hslot⟩, Hl⟩ Hk
  ihave Hc := (records_cell m K (peer c k) 0 _ csem_bar) $$ Hrec
  icases Hc with ⟨#Hinv, #Hr⟩
  iapply (Rounds.wp_signal 𝒱₀ EX (sched m) (c : Thread nD τ) none (dst := (peer c k : Thread nD τ)) (κ := K (peer c k, 0))
    (d := k.rev) (by rw [duties_bar]; exact Finset.mem_univ _) (amount_bar m (peer c k) k.rev) () (owed c steps l)
    (owed_signal c steps l k)) $$ [HO Ht Hslot]
  · isplitr; · iexact Hinv
    isplitl [HO]; · iexact HO
    isplitl [Ht]; · iexact Ht
    isplitl [Hslot]
    · rw [payload_bar]; unfold barPay; rw [peer_peer_rev]; iexact Hslot
    · iexact Hr
  iintro HO
  iapply Hk
  isplitr; · iexact Hrec
  isplitl [HO]; · iexists W; iexact HO
  iexact Hl

/-- Waiting until all seven peers have reported: their slots for this device's blocks come with it. -/
theorem await_reports (u : ℕ) (hu : 7 = u)
    (kt : PUnit → Prog (TpuEff nD τ sig (Elt F) Λ₀ .tc) PUnit) (Q : PUnit → sProp 𝕄) :
    iprop(entering m K c [] ∗ levAts L lv ∗ cred (tallyAt (barCell c) () 7) ∗ atPos EX (barCell c) 0 ∅ 0)
      ⊢ iprop(((owing c (owed c steps []) ∗ semVal (barCell c) 0 ∗ bigSep Finset.univ (barPay c)) -∗ runs c (kt ⟨⟩) Q)
          -∗ runs c (.op (.semWait barS u) kt) Q) := by
  subst hu
  unfold entering owing
  iintro ⟨⟨#Hrec, ⟨%W, HO⟩, -⟩, #Hlev, Hc, Hat⟩ Hk
  ihave Hi := (records_cell m K c 0 _ csem_bar) $$ Hrec
  icases Hi with ⟨#Hinv, -⟩
  iapply (Rounds.wp_wait_rest_token 𝒱₀ EX (sched m) (c : Thread nD τ) none (κ := K (c, 0))
      (wpE_semWait_eq 𝒱₀ (c : Thread nD τ) none Set.univ) (Set.mem_univ _) () (O := owed c steps []) (W := W) (R := 0) (m := 0) (T := ∅)
      (by rw [expect_bar])) $$ [Hc HO Hat]
  · isplitr; · iexact Hinv
    isplitl [Hc]; · iexact Hc
    isplitl [HO]; · iexact HO
    isplitr; · iapply (mayWait_bar c steps); iexact Hlev
    iexact Hat
  iintro ⟨HO, Hat, -, Hpay⟩
  ihave Hp := (Entails.of_eq (rest_bar m c)) $$ Hpay
  imod (Rounds.cell_close EX (sched m) (Set.mem_univ (K (c, 0))) (fun h => h) (R := 0 + 1) (duties_later m (barCell c))) $$ [Hat] with Hz
  · isplitr; · iexact Hinv
    iexact Hat
  iapply Hk
  isplitl [HO]; · iexists _; iexact HO
  isplitl [Hz]; · iexact Hz
  iexact Hp

/-! ## Computing and sending a block -/

/-- Device `c` has still to send the blocks of the steps `l`, and has sent those of `l'`. -/
def sending (l l' : List (Fin 7)) : sProp 𝕄 :=
  iprop(records m K ∗ operands m c ∗ owing c (owed c l [])
    ∗ (bigSepL l fun k => iprop((∃ f, sPts c k f) ∗ (∃ f, rPts (peer c k) c f)
        ∗ dutyTok EX (sendCell c k) 0 0 ∗ dutyTok EX (recvCell (peer c k) c) 0 0))
    ∗ bigSepL l' fun k => cred (tallyAt (sendCell c k) () N))

/-- The transfer of step `k`'s block into the peer's slot for it. -/
theorem transfer (k : Fin 7) (l : List (Fin 7)) (n : Dev nD) (hn : n = peer c k) (f : Buf (Elt F) ((peer c k : Thread nD τ).loc cc0_scratch1))
    (W : Waits sig Unit) {hsc : (rSlot c : Memref sig (Dev.tc n : Thread nD τ).2.kind .vmem S128x1024 .f32).view.ref.isScScratch = false}
    {hsrc : (sSlot k).view.WordExact} {hdst : (rSlot c).view.WordExact}
    {hsem : DmaTarget.Typed .vmem (.dma (recvS c)) (.remote (Dev.tc n : Thread nD τ) (rSlot c) (.dma (sendS k)) hsc)}
    (kt : PUnit → Prog (TpuEff nD τ sig (Elt F) Λ₀ .tc) PUnit) (Q : PUnit → sProp 𝕄) :
    iprop(records m K ∗ sPts c k (sentAll m c) ∗ rPts (peer c k) c f ∗ owes (c : Thread nD τ) (owed c (k :: l) []) W
        ∗ dutyTok EX (sendCell c k) 0 0 ∗ dutyTok EX (recvCell (peer c k) c) 0 0)
      ⊢ iprop(((cred (tallyAt (sendCell c k) () N) ∗ owes (c : Thread nD τ) (owed c l []) W) -∗ runs c (kt ⟨⟩) Q)
          -∗ runs c (.op (.enqueueDma (sSlot k) (.remote (Dev.tc n : Thread nD τ) (rSlot c) (.dma (sendS k)) hsc) (.dma (recvS c)) hsrc hdst hsem) kt) Q) := by
  subst hn
  iintro ⟨#Hrec, Hs, Hr, HO, Ht, Ht'⟩
  ihave H1 := (records_cell m K c (sendIx k) _ (csem_send k)) $$ Hrec
  icases H1 with ⟨#Hi1, #Hr1⟩
  ihave H2 := (records_cell m K (peer c k) (recvIx c) _ (csem_recv c)) $$ Hrec
  icases H2 with ⟨#Hi2, #Hr2⟩
  ihave Hs := (Entails.of_eq (sPts_view c k (sentAll m c))) $$ Hs
  ihave Hr := (Entails.of_eq (rPts_view (peer c k) c f)) $$ Hr
  iapply (Rounds.wp_send_pointsTo 𝒱₀ EX (sched m) (c : Thread nD τ) none (κ₁ := K (c, sendIx k)) (κ₂ := K (peer c k, recvIx c))
    (c' := (peer c k : Thread nD τ)) (fs := sentAll m c) (fd := f) (r₁ := 0) (r₂ := 0) (d₁ := 0) (d₂ := 0)
    (by rw [duties_send]; exact Finset.mem_singleton_self _)
    (by have h := duties_recv m (peer c k) k.rev; rw [peer_peer_rev] at h; rw [h]; exact Finset.mem_singleton_self _)
    () () N (by exact credit_eq (rSlot c)) (amount_dma m c (sendS k) 0) (amount_dma m (peer c k) (recvS c) 0) (owed c l []) (owed_send c l [] k) (W := W)
    (by rw [payload_send, sPts_view])
    (by rw [payload_recv, ← rPts_landed m c k f, rPts_view])) $$ [Hs Hr HO Ht Ht']
  isplitr; · iexact Hi1
  isplitr; · iexact Hi2
  isplitl [Hs]; · iexact Hs
  isplitl [Hr]; · iexact Hr
  isplitl [HO]; · iexact HO
  isplitl [Ht]; · iexact Ht
  isplitr; · iexact Hr1
  isplitl [Ht']; · iexact Ht'
  iexact Hr2

/-- Computing step `k`'s block into its outgoing slot and sending it off. -/
theorem compute_and_send (k : Fin 7) (l l' : List (Fin 7)) (n : Dev nD) (hn : n = peer c k)
    {offA : Fin 2 → ℕ} (hA : offA = ![128 * (peer c k).val, 0]) {inbA : ∀ a, offA a + S128x512.size a ≤ S1024x512.size a}
    {offS : Fin 3 → ℕ} (hS : offS = ![k.val, 0, 0]) {inbS : ∀ a, offS a + S1x128x1024.size a ≤ S7x128x1024.size a}
    {offR : Fin 3 → ℕ} (hR : offR = ![c.val, 0, 0]) {inbR : ∀ a, offR a + S1x128x1024.size a ≤ S8x128x1024.size a}
    {qS qR : DmaSem sig} (hqS : qS = sendS k) (hqR : qR = recvS c)
    {pay : Vec F S128x512 .f32 → Vec F S512x1024 .f32 → FVec F S1x128x1024 .f32} (hpay : ∀ a b, pay a b = k0_pay1 a b)
    {hl₁ hl₂ hl₃ hst₁ hst₂ hsl hsl' hsc hsrc hdst hsem}
    (kt : PUnit → Prog (TpuEff nD τ sig (Elt F) Λ₀ .tc) PUnit) (Q : PUnit → sProp 𝕄) :
    sending m K c (k :: l) l'
      ⊢ iprop((sending m K c l (k :: l') -∗ runs c (kt ⟨⟩) Q)
          -∗ runs c (.op (.load aM (Rect.unit (s := S1024x512) offA S128x512.size inbA).toLoadRect hl₁) fun a =>
              .op (.load bM bRect.toLoadRect hl₂) fun b =>
              .op (.load sM (Rect.unit (s := S7x128x1024) offS S1x128x1024.size inbS).toLoadRect hl₃) fun _ =>
              .op (.store sM (Rect.unit (s := S7x128x1024) offS S1x128x1024.size inbS) (pay a b) Finset.univ hst₁ hst₂) fun _ =>
              .op (.enqueueDma ((sM.slice (Rect.unit (s := S7x128x1024) offS S1x128x1024.size inbS) hsl).squeeze S128x1024 squeezes_S1x128x1024_S128x1024)
                (.remote (Dev.tc n : Thread nD τ)
                  ((rM.slice (Rect.unit (s := S8x128x1024) offR S1x128x1024.size inbR) hsl').squeeze S128x1024 squeezes_S1x128x1024_S128x1024)
                  (.dma qS) hsc) (.dma qR) hsrc hdst hsem) kt) Q) := by
  subst hA hS hR hqS hqR
  unfold sending owing operands
  rw [bigSepL_cons', bigSepL_cons']
  iintro ⟨#Hrec, ⟨Ha, Hb⟩, ⟨%W, HO⟩, ⟨⟨⟨%f, Hs⟩, ⟨%g, Hr⟩, Ht, Ht'⟩, Hl⟩, Hl'⟩ Hk
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  unfold sPts
  iapply (wp_load_rect 𝒱₀ (c : Thread nD τ) none Set.univ (m := sM) (subset_of_eq (View.set_slice_whole cc0_scratch0 (sRect k)))) $$ Hs; iintro Hs
  iapply (wp_store 𝒱₀ (c : Thread nD τ) none Set.univ (m := sM) (r := sRect k) (Mk := Finset.univ)
    (subset_of_eq (View.set_slice_whole cc0_scratch0 (sRect k)))) $$ Hs; iintro Hs
  rw [hpay, show bM.view.readAt (Elt F) bRect.toLoadRect (bStg m c) = bStg m c from
    Memref.readAt_unit_zero (Elt F) cc0_stg1_0 (funext fun a => by fin_cases a <;> rfl) _ _,
    show k0_pay1 (aM.view.readAt (Elt F) (aRect (peer c k)).toLoadRect (aStg m c)) (bStg m c) = part m c (peer c k) from rfl]
  ihave Hs := (Entails.of_eq (sPts_stored m c k f)) $$ Hs
  iapply (transfer m K c k l n hn g W) $$ [Hs Hr HO Ht Ht']
  · isplitr; · iexact Hrec
    isplitl [Hs]; · iexact Hs
    isplitl [Hr]; · iexact Hr
    isplitl [HO]; · iexact HO
    isplitl [Ht] <;> iassumption
  iintro ⟨Hc, HO⟩
  iapply Hk
  isplitr; · iexact Hrec
  isplitl [Ha Hb]; · isplitl [Ha] <;> iassumption
  isplitl [HO]; · iexists W; iexact HO
  isplitl [Hl]; · iexact Hl
  isplitl [Hc] <;> iassumption

/-- Computing the device's own block straight into its own slot of the incoming buffer. -/
theorem compute_own
    {offA : Fin 2 → ℕ} (hA : offA = ![128 * c.val, 0]) {inbA : ∀ a, offA a + S128x512.size a ≤ S1024x512.size a}
    {offR : Fin 3 → ℕ} (hR : offR = ![c.val, 0, 0]) {inbR : ∀ a, offR a + S1x128x1024.size a ≤ S8x128x1024.size a}
    {pay : Vec F S128x512 .f32 → Vec F S512x1024 .f32 → FVec F S1x128x1024 .f32} (hpay : ∀ a b, pay a b = k0_pay1 a b)
    {hl₁ hl₂ hl₃ hst₁ hst₂}
    (kt : PUnit → Prog (TpuEff nD τ sig (Elt F) Λ₀ .tc) PUnit) (Q : PUnit → sProp 𝕄) :
    iprop(operands m c ∗ ∃ f, rPts c c f)
      ⊢ iprop(((operands m c ∗ rPts c c (gotAll m c)) -∗ runs c (kt ⟨⟩) Q)
          -∗ runs c (.op (.load aM (Rect.unit (s := S1024x512) offA S128x512.size inbA).toLoadRect hl₁) fun a =>
              .op (.load bM bRect.toLoadRect hl₂) fun b =>
              .op (.load rM (Rect.unit (s := S8x128x1024) offR S1x128x1024.size inbR).toLoadRect hl₃) fun _ =>
              .op (.store rM (Rect.unit (s := S8x128x1024) offR S1x128x1024.size inbR) (pay a b) Finset.univ hst₁ hst₂) kt) Q) := by
  subst hA hR
  unfold operands
  iintro ⟨⟨Ha, Hb⟩, ⟨%f, Hr⟩⟩ Hk
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  unfold rPts
  iapply (wp_load_rect 𝒱₀ (c : Thread nD τ) none Set.univ (m := rM) (subset_of_eq (View.set_slice_whole cc0_scratch1 (rRect c)))) $$ Hr; iintro Hr
  iapply (wp_store 𝒱₀ (c : Thread nD τ) none Set.univ (m := rM) (r := rRect c) (Mk := Finset.univ)
    (subset_of_eq (View.set_slice_whole cc0_scratch1 (rRect c)))) $$ Hr; iintro Hr
  rw [hpay, show bM.view.readAt (Elt F) bRect.toLoadRect (bStg m c) = bStg m c from
    Memref.readAt_unit_zero (Elt F) cc0_stg1_0 (funext fun a => by fin_cases a <;> rfl) _ _,
    show k0_pay1 (aM.view.readAt (Elt F) (aRect c).toLoadRect (aStg m c)) (bStg m c) = part m c c from rfl]
  ihave Hr := (Entails.of_eq (rPts_stored m c c f)) $$ Hr
  iapply Hk
  isplitl [Ha Hb]; · isplitl [Ha] <;> iassumption
  unfold rPts
  iexact Hr

/-! ## Waiting for a block, incoming or sent -/

/-- Device `c` owes nothing, has still to wait for the incoming blocks of the steps `l`, and holds those of `l'`. -/
def receiving (l l' : List (Fin 7)) : sProp 𝕄 :=
  iprop(records m K ∗ owing c 0
    ∗ (bigSepL l fun k => iprop(cred (tallyAt (recvCell c (peer c k)) () N) ∗ atPos EX (recvCell c (peer c k)) 0 ∅ 0))
    ∗ bigSepL l' fun k => iprop(rPts c (peer c k) (gotAll m c) ∗ semVal (recvCell c (peer c k)) 0))

/-- Waiting for the block of the peer of step `k`. -/
theorem receive (k : Fin 7) (l l' : List (Fin 7)) {q : DmaSem sig} (hq : q = recvS (peer c k))
    {src dst : Memref sig .tc .vmem S128x1024 .f32} {hs hd}
    (kt : PUnit → Prog (TpuEff nD τ sig (Elt F) Λ₀ .tc) PUnit) (Q : PUnit → sProp 𝕄) :
    receiving m K c (k :: l) l'
      ⊢ iprop((receiving m K c l (k :: l') -∗ runs c (kt ⟨⟩) Q) -∗ runs c (.op (.waitDma2 q src dst hs hd) kt) Q) := by
  subst hq
  unfold receiving owing
  rw [bigSepL_cons', bigSepL_cons']
  iintro ⟨#Hrec, ⟨%W, HO⟩, ⟨⟨Hc, Hat⟩, Hl⟩, Hl'⟩ Hk
  ihave Hi := (records_cell m K c (recvIx (peer c k)) _ (csem_recv (peer c k))) $$ Hrec
  icases Hi with ⟨#Hinv, -⟩
  iapply (Rounds.wp_wait_rest_token 𝒱₀ EX (sched m) (c : Thread nD τ) none (κ := K (c, recvIx (peer c k)))
      (k' := dst.view.dmaCredit)
      (wpE_waitDma2_eq 𝒱₀ (c : Thread nD τ) none Set.univ) (Set.mem_univ _) () (O := 0) (W := W) (R := 0) (m := 0) (T := ∅)
      (by rw [Nat.zero_add, credit_eq, expect_recv])) $$ [Hc HO Hat]
  · isplitr; · iexact Hinv
    isplitl [Hc]; · rw [credit_eq]; iexact Hc
    isplitl [HO]; · iexact HO
    isplitr; · rw [MayWait_zero]; iempintro
    iexact Hat
  iintro ⟨HO, Hat, -, Hpay⟩
  ihave Hp := (Entails.of_eq (rest_recv m c k)) $$ Hpay
  imod (Rounds.cell_close EX (sched m) (Set.mem_univ (K (c, recvIx (peer c k)))) (fun h => h) (R := 0 + 1)
    (duties_later m (recvCell c (peer c k)))) $$ [Hat] with Hz
  · isplitr; · iexact Hinv
    iexact Hat
  iapply Hk
  isplitr; · iexact Hrec
  isplitl [HO]; · iexists _; iexact HO
  isplitl [Hl]; · iexact Hl
  isplitl [Hp Hz]; · isplitl [Hp] <;> iassumption
  iexact Hl'

/-- Device `c` owes nothing, has still to wait for the sent blocks of the steps `l`, and has those of `l'` back. -/
def returning (l l' : List (Fin 7)) : sProp 𝕄 :=
  iprop(records m K ∗ owing c 0
    ∗ (bigSepL l fun k => iprop(cred (tallyAt (sendCell c k) () N) ∗ atPos EX (sendCell c k) 0 ∅ 0))
    ∗ bigSepL l' fun k => iprop(sPts c k (sentAll m c) ∗ semVal (sendCell c k) 0))

/-- Waiting until step `k`'s block has left its outgoing slot. -/
theorem take_back (k : Fin 7) (l l' : List (Fin 7)) {q : DmaSem sig} (hq : q = sendS k)
    {src dst : Memref sig .tc .vmem S128x1024 .f32} {hs hd}
    (kt : PUnit → Prog (TpuEff nD τ sig (Elt F) Λ₀ .tc) PUnit) (Q : PUnit → sProp 𝕄) :
    returning m K c (k :: l) l'
      ⊢ iprop((returning m K c l (k :: l') -∗ runs c (kt ⟨⟩) Q) -∗ runs c (.op (.waitDma2 q src dst hs hd) kt) Q) := by
  subst hq
  unfold returning owing
  rw [bigSepL_cons', bigSepL_cons']
  iintro ⟨#Hrec, ⟨%W, HO⟩, ⟨⟨Hc, Hat⟩, Hl⟩, Hl'⟩ Hk
  ihave Hi := (records_cell m K c (sendIx k) _ (csem_send k)) $$ Hrec
  icases Hi with ⟨#Hinv, -⟩
  iapply (Rounds.wp_wait_rest_token 𝒱₀ EX (sched m) (c : Thread nD τ) none (κ := K (c, sendIx k))
      (k' := dst.view.dmaCredit)
      (wpE_waitDma2_eq 𝒱₀ (c : Thread nD τ) none Set.univ) (Set.mem_univ _) () (O := 0) (W := W) (R := 0) (m := 0) (T := ∅)
      (by rw [Nat.zero_add, credit_eq, expect_send])) $$ [Hc HO Hat]
  · isplitr; · iexact Hinv
    isplitl [Hc]; · rw [credit_eq]; iexact Hc
    isplitl [HO]; · iexact HO
    isplitr; · rw [MayWait_zero]; iempintro
    iexact Hat
  iintro ⟨HO, Hat, -, Hpay⟩
  ihave Hp := (Entails.of_eq (rest_send m c k)) $$ Hpay
  imod (Rounds.cell_close EX (sched m) (Set.mem_univ (K (c, sendIx k))) (fun h => h) (R := 0 + 1)
    (duties_later m (sendCell c k))) $$ [Hat] with Hz
  · isplitr; · iexact Hinv
    iexact Hat
  iapply Hk
  isplitr; · iexact Hrec
  isplitl [HO]; · iexists _; iexact HO
  isplitl [Hl]; · iexact Hl
  isplitl [Hp Hz]; · isplitl [Hp] <;> iassumption
  iexact Hl'

end Steps

end Cert.KernelIdeal.Exchange

end
-- ==== Proof.KernelIdeal.Body.lean ====
/-
# The kernel's body on one device

From what the launch gives device `c` — its operands, its scratch, its positions and tokens — the body runs to its end,
leaving in the output buffer the sum of the eight devices' contributions to `c`'s block, and every one of its semaphores at zero.
-/
module

public import proofs.«01_k».proof.Proof.KernelIdeal.Steps
public import Idealize.ShloMosaic.Lib.Pipeline.Value

@[expose] public section

noncomputable section

namespace Cert.KernelIdeal.Exchange

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Device `c`'s block of the result: the eight contributions to it, added in the order of the devices. -/
def outAt (c : Dev nD) : (cc0_stg2_0 : Ref sig .tc).ty.Contents (Elt F) :=
  k0_pay11 (part m 0 c) (part m 1 c) (part m 2 c) (part m 3 c) (part m 4 c) (part m 5 c) (part m 6 c) (part m 7 c)

/-! ## The names the program gives its peers, slots and cells -/

theorem peer_dev (c : Dev nD) (k : Fin 7) {x : ℕ} (h : x = (c.val + (k.val + 1)) % 8) (hx : x < nD) : (⟨x, hx⟩ : Dev nD) = peer c k :=
  Fin.ext h
theorem sem_send (k : Fin 7) {off : Fin 1 → ℕ} (h : off = ![k.val]) (inb : ∀ a, off a + S1.size a ≤ S7.size a) :
    ((cc0_scratch2.slice (Rect.unit (s := S7) off S1.size inb)).squeeze S_ squeezes_S1_S_).sem = sendS k := by subst h; exact sendS_eq k inb
theorem sem_recv (s : Fin 8) {off : Fin 1 → ℕ} (h : off = ![s.val]) (inb : ∀ a, off a + S1.size a ≤ S8.size a) :
    ((cc0_scratch3.slice (Rect.unit (s := S8) off S1.size inb)).squeeze S_ squeezes_S1_S_).sem = recvS s := by subst h; exact recvS_eq s inb

/-- The device's own block is computed as the others are. -/
theorem own_payload (a : Vec F S128x512 .f32) (b : Vec F S512x1024 .f32) : k0_pay10 a b = k0_pay1 a b := by
  unfold k0_pay10 k0_pay1; exact shapeCast_self _ _

/-! ## Conjunctions over a device's cells and steps -/

/-- The steps, last first. -/
theorem bigSep_steps_back (Φ : Fin 7 → sProp 𝕄) : bigSepL [6, 5, 4, 3, 2, 1, 0] Φ = bigSep Finset.univ Φ :=
  (bigSep_univ_eq_bigSepL [6, 5, 4, 3, 2, 1, 0] (by decide) (by decide) Φ).symm

/-- Something held of each of a device's sixteen cells: of its barrier, its outgoing slots' cells, its own slot's, its peers' slots'. -/
theorem bigSep_cells (c : Dev nD) (Φ : SemLoc sig → sProp 𝕄) :
    (bigSep Finset.univ fun i : Fin 16 => Φ (csem i))
      = iprop(Φ (.reg barS) ∗ (bigSep Finset.univ fun k => Φ (.dma (sendS k)))
          ∗ Φ (.dma (recvS c)) ∗ bigSep Finset.univ fun k => Φ (.dma (recvS (peer c k)))) := by
  rw [bigSep_univ_eq_bigSepL (0 :: (steps.map sendIx ++ (List.finRange 8).map recvIx)) (by decide) (by decide), bigSepL_cons',
    bigSepL_append, bigSepL_map, bigSepL_map, ← bigSep_steps,
    ← bigSep_univ_eq_bigSepL (List.finRange 8) (by decide) (by decide) (fun s => Φ (csem (recvIx s))), bigSep_device_peers c]
  simp only [csem_bar, csem_send, csem_recv]

/-! ## What the body starts from and ends with -/

/-- The tokens of the duties device `c` pays. -/
def payToks (c : Dev nD) : sProp 𝕄 :=
  iprop((bigSep Finset.univ fun k : Fin 7 => dutyTok EX (barCell (peer c k)) 0 k.rev)
    ∗ bigSep Finset.univ fun k : Fin 7 => iprop(dutyTok EX (sendCell c k) 0 0 ∗ dutyTok EX (recvCell (peer c k) c) 0 0))
/-- Device `c`'s share of the exchange's ghost state. -/
def ghost (K : Dev nD × Fin 16 → ℕ) (c : Dev nD) : sProp 𝕄 :=
  iprop(records m K ∗ (bigSep Finset.univ fun i : Fin 16 => atPos EX (kcell (c, i)) 0 ∅ 0) ∗ payToks c)
/-- The credit device `c` may wait on: seven reports, and a block from each peer. -/
def credits (c : Dev nD) : sProp 𝕄 :=
  iprop(cred (tallyAt (barCell c) () 7) ∗ bigSep Finset.univ fun k : Fin 7 => cred (tallyAt (recvCell c (peer c k)) () N))
/-- The two scratch buffers, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- Every one of device `c`'s sixteen cells is at zero and its own again. -/
def quiet (c : Dev nD) : sProp 𝕄 := bigSep Finset.univ fun i : Fin 16 => semVal (kcell (c, i)) 0

theorem send_slots (c : Dev nD) (f : Buf (Elt F) ((c : Thread nD τ).loc cc0_scratch0)) :
    (((c : Thread nD τ).loc cc0_scratch0) ↦{fullShare} f : sProp 𝕄) ⊢ bigSep Finset.univ fun k => iprop(∃ f, sPts c k f) := by
  rw [sPts_all]; exact bigSep_mono fun k _ => show sPts c k f ⊢ (iprop(∃ f, sPts c k f) : sProp 𝕄) by iintro H; iexists f; iexact H
theorem recv_slots (c : Dev nD) (f : Buf (Elt F) ((c : Thread nD τ).loc cc0_scratch1)) :
    (((c : Thread nD τ).loc cc0_scratch1) ↦{fullShare} f : sProp 𝕄)
      ⊢ iprop((∃ f, rPts c c f) ∗ bigSep Finset.univ fun k => iprop(∃ f, rPts c (peer c k) f)) := by
  rw [rPts_all, bigSep_device_peers c]
  have some_contents (s : Dev nD) : rPts c s f ⊢ (iprop(∃ f, rPts c s f) : sProp 𝕄) := by iintro H; iexists f; iexact H
  exact BI.sep_mono (some_contents c) (bigSep_mono fun k _ => some_contents (peer c k))

section Phases
variable (K : Dev nD × Fin 16 → ℕ) (c : Dev nD)

/-- What each phase starts from, gathered over the seven steps. -/
theorem entering_intro :
    iprop(records m K ∗ owing c (owed c steps steps) ∗ (bigSep Finset.univ fun k : Fin 7 => dutyTok EX (barCell (peer c k)) 0 k.rev)
        ∗ bigSep Finset.univ fun k => iprop(∃ f, rPts c (peer c k) f)) ⊢ entering m K c steps := by
  unfold entering; rw [← bigSep_steps, bigSep_sep']
theorem sending_intro :
    iprop(records m K ∗ operands m c ∗ owing c (owed c steps []) ∗ (bigSep Finset.univ fun k => iprop(∃ f, sPts c k f)) ∗ bigSep Finset.univ (barPay c)
        ∗ bigSep Finset.univ fun k : Fin 7 => iprop(dutyTok EX (sendCell c k) 0 0 ∗ dutyTok EX (recvCell (peer c k) c) 0 0))
      ⊢ sending m K c steps [] := by
  unfold sending; rw [← bigSep_steps]
  simp only [bigSep_sep', bigSepL_nil]
  unfold barPay
  iintro ⟨H1, H2, H3, H4, H5, H6, H7⟩
  isplitl [H1]; · iexact H1
  isplitl [H2]; · iexact H2
  isplitl [H3]; · iexact H3
  isplitl
  · isplitl [H4]; · iexact H4
    isplitl [H5]; · iexact H5
    isplitl [H6] <;> iassumption
  iempintro
theorem receiving_intro :
    iprop(records m K ∗ owing c 0 ∗ (bigSep Finset.univ fun k : Fin 7 => cred (tallyAt (recvCell c (peer c k)) () N))
        ∗ bigSep Finset.univ fun k : Fin 7 => atPos EX (recvCell c (peer c k)) 0 ∅ 0) ⊢ receiving m K c steps [] := by
  unfold receiving; rw [← bigSep_steps, bigSep_sep', bigSepL_nil]
  iintro ⟨H1, H2, H3⟩
  isplitl [H1]; · iexact H1
  isplitl [H2]; · iexact H2
  isplitl; · iexact H3
  iempintro
theorem returning_intro :
    iprop(records m K ∗ owing c 0 ∗ (bigSep Finset.univ fun k : Fin 7 => cred (tallyAt (sendCell c k) () N))
        ∗ bigSep Finset.univ fun k : Fin 7 => atPos EX (sendCell c k) 0 ∅ 0) ⊢ returning m K c steps [] := by
  unfold returning; rw [← bigSep_steps, bigSep_sep', bigSepL_nil]
  iintro ⟨H1, H2, H3⟩
  isplitl [H1]; · iexact H1
  isplitl [H2]; · iexact H2
  isplitl; · iexact H3
  iempintro

/-- The device's own slot's cell, never used, is at zero. -/
theorem own_cell_close : iprop(records m K ∗ atPos EX (recvCell c c) 0 ∅ 0) ⊢ |={Set.univ}=> (semVal (recvCell c c) 0 : sProp 𝕄) := by
  iintro ⟨#Hrec, Hat⟩
  ihave Hi := (records_cell m K c (recvIx c) _ (csem_recv c)) $$ Hrec
  icases Hi with ⟨#Hinv, -⟩
  iapply (Rounds.cell_close EX (sched m) (Set.mem_univ (K (c, recvIx c))) (fun h => h) (R := 0) (fun r _ => duties_own m c r)) $$ [Hat]
  isplitr; · iexact Hinv
  iexact Hat

/-- Reading slot `s` of the filled incoming buffer gives device `s`'s contribution. -/
theorem read_slot (s : Fin 8) {off : Fin 3 → ℕ} (h : off = ![s.val, 0, 0]) {inb : ∀ a, off a + S1x128x1024.size a ≤ S8x128x1024.size a} {hl}
    (kt : FVec F S1x128x1024 .f32 → Prog (TpuEff nD τ sig (Elt F) Λ₀ .tc) PUnit) (Q : PUnit → sProp 𝕄) :
    held c cc0_scratch1 (gotAll m c)
      ⊢ iprop((held c cc0_scratch1 (gotAll m c) -∗ runs c (kt (part m s c)) Q)
          -∗ runs c (.op (.load (e := .f32) rM (Rect.unit (s := S8x128x1024) off S1x128x1024.size inb).toLoadRect hl) fun (v : FVec F S1x128x1024 .f32) => kt v) Q) := by
  subst h
  iintro H Hk
  iapply (wp_load 𝒱₀ (c : Thread nD τ) none Set.univ (m := rM) (Finset.subset_univ _)) $$ H; iintro H
  rw [show rM.view.readAt (Elt F) (rRect s).toLoadRect (gotAll m c) = part m s c from funext (gotAll_emb m c s)]
  iapply Hk; iexact H

set_option maxHeartbeats 1000000 in
/-- The body, run from what the launch gives to the end. -/
theorem body_runs (Kt : PUnit → sProp 𝕄) :
    iprop(ghost m K c ∗ credits c ∗ levAts L lv ∗ scratch c ∗ owing c (owed c steps steps) ∗ operands m c ∗ ∃ f, held c cc0_stg2_0 f)
      ⊢ iprop(((quiet c ∗ scratch c ∗ owing c 0 ∗ operands m c ∗ held c cc0_stg2_0 (outAt m c)) -∗ Kt ⟨⟩)
          -∗ runs c (cc0_body aM (Memref.isWhole_whole _) bM (Memref.isWhole_whole _) oM (Memref.isWhole_whole _)
              sM (Memref.isWhole_whole _) rM (Memref.isWhole_whole _) cc0_scratch2 cc0_scratch3) Kt) := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel
    k0_part9_skel k0_part10_skel k0_part11_skel
  simp only [semSignalWord, semWaitWord, Prog.lift, Prog.bind_op, Prog.bind_ret, Prog.pure_eq_ret, wp_deviceId]
  unfold ghost payToks credits scratch
  rw [bigSep_cells c fun sm => (atPos EX ((c : Thread nD τ), sm) 0 ∅ 0 : sProp 𝕄)]
  iintro ⟨⟨#Hrec, ⟨HatB, HatS, HatO, HatR⟩, HtB, HtX⟩, ⟨HcB, HcR⟩, #Hlev, ⟨⟨%f0, Hs0⟩, ⟨%f1, Hs1⟩⟩, HO, Hab, ⟨%f2, Hout⟩⟩ Hk
  ihave Hsend := (send_slots c f0) $$ Hs0
  ihave Hrecv := (recv_slots c f1) $$ Hs1
  icases Hrecv with ⟨Hown, Hrecv⟩
  -- reporting at the seven barriers, and waiting for the seven reports
  ihave H := (entering_intro m K c) $$ [HO HtB Hrecv]
  · isplitr; · iexact Hrec
    isplitl [HO]; · iexact HO
    isplitl [HtB] <;> iassumption
  iapply (report m K c 0 [1, 2, 3, 4, 5, 6] _ (peer_dev c 0 (k0_dev1_eq c) _) _ rfl) $$ H; iintro H
  iapply (report m K c 1 [2, 3, 4, 5, 6] _ (peer_dev c 1 (k0_dev2_eq c) _) _ rfl) $$ H; iintro H
  iapply (report m K c 2 [3, 4, 5, 6] _ (peer_dev c 2 (k0_dev3_eq c) _) _ rfl) $$ H; iintro H
  iapply (report m K c 3 [4, 5, 6] _ (peer_dev c 3 (k0_dev4_eq c) _) _ rfl) $$ H; iintro H
  iapply (report m K c 4 [5, 6] _ (peer_dev c 4 (k0_dev5_eq c) _) _ rfl) $$ H; iintro H
  iapply (report m K c 5 [6] _ (peer_dev c 5 (k0_dev6_eq c) _) _ rfl) $$ H; iintro H
  iapply (report m K c 6 [] _ (peer_dev c 6 (k0_dev7_eq c) _) _ rfl) $$ H; iintro H
  iapply (await_reports m K c _ rfl) $$ [H HcB HatB]
  · isplitl [H]; · iexact H
    isplitr; · iexact Hlev
    isplitl [HcB] <;> iassumption
  iintro ⟨HO, HzB, Hbar⟩
  -- computing and sending the seven blocks
  ihave H := (sending_intro m K c) $$ [Hab HO Hsend Hbar HtX]
  · isplitr; · iexact Hrec
    isplitl [Hab]; · iexact Hab
    isplitl [HO]; · iexact HO
    isplitl [Hsend]; · iexact Hsend
    isplitl [Hbar] <;> iassumption
  iapply (compute_and_send m K c 0 [1, 2, 3, 4, 5, 6] [] _ (peer_dev c 0 (k0_dev8_eq c) _) (k0_off1_eq c 0) rfl (k0_off3_eq c)
    (sem_send 0 rfl _) (sem_recv c (k0_off2_eq c) _) (fun a b => rfl)) $$ H; iintro H
  iapply (compute_and_send m K c 1 [2, 3, 4, 5, 6] _ _ (peer_dev c 1 (k0_dev9_eq c) _) (k0_off1_eq c 1) rfl (k0_off3_eq c)
    (sem_send 1 rfl _) (sem_recv c (k0_off2_eq c) _) (fun a b => rfl)) $$ H; iintro H
  iapply (compute_and_send m K c 2 [3, 4, 5, 6] _ _ (peer_dev c 2 (k0_dev10_eq c) _) (k0_off1_eq c 2) rfl (k0_off3_eq c)
    (sem_send 2 rfl _) (sem_recv c (k0_off2_eq c) _) (fun a b => rfl)) $$ H; iintro H
  iapply (compute_and_send m K c 3 [4, 5, 6] _ _ (peer_dev c 3 (k0_dev11_eq c) _) (k0_off1_eq c 3) rfl (k0_off3_eq c)
    (sem_send 3 rfl _) (sem_recv c (k0_off2_eq c) _) (fun a b => rfl)) $$ H; iintro H
  iapply (compute_and_send m K c 4 [5, 6] _ _ (peer_dev c 4 (k0_dev12_eq c) _) (k0_off1_eq c 4) rfl (k0_off3_eq c)
    (sem_send 4 rfl _) (sem_recv c (k0_off2_eq c) _) (fun a b => rfl)) $$ H; iintro H
  iapply (compute_and_send m K c 5 [6] _ _ (peer_dev c 5 (k0_dev13_eq c) _) (k0_off1_eq c 5) rfl (k0_off3_eq c)
    (sem_send 5 rfl _) (sem_recv c (k0_off2_eq c) _) (fun a b => rfl)) $$ H; iintro H
  iapply (compute_and_send m K c 6 [] _ _ (peer_dev c 6 (k0_dev14_eq c) _) (k0_off1_eq c 6) rfl (k0_off3_eq c)
    (sem_send 6 rfl _) (sem_recv c (k0_off2_eq c) _) (fun a b => rfl)) $$ H; iintro H
  unfold sending
  rw [owed_nil, bigSep_steps_back]
  icases H with ⟨-, Hab, HO, -, HcS⟩
  iapply (compute_own m c (k0_off4_eq c) (k0_off5_eq c) own_payload) $$ [Hab Hown]
  · isplitl [Hab] <;> iassumption
  iintro ⟨Hab, Hown⟩
  -- waiting for the seven incoming blocks
  ihave H := (receiving_intro m K c) $$ [HO HcR HatR]
  · isplitr; · iexact Hrec
    isplitl [HO]; · iexact HO
    isplitl [HcR] <;> iassumption
  iapply (receive m K c 0 [1, 2, 3, 4, 5, 6] [] (sem_recv (peer c 0) (k0_off6_eq c 0) _)) $$ H; iintro H
  iapply (receive m K c 1 [2, 3, 4, 5, 6] _ (sem_recv (peer c 1) (k0_off6_eq c 1) _)) $$ H; iintro H
  iapply (receive m K c 2 [3, 4, 5, 6] _ (sem_recv (peer c 2) (k0_off6_eq c 2) _)) $$ H; iintro H
  iapply (receive m K c 3 [4, 5, 6] _ (sem_recv (peer c 3) (k0_off6_eq c 3) _)) $$ H; iintro H
  iapply (receive m K c 4 [5, 6] _ (sem_recv (peer c 4) (k0_off6_eq c 4) _)) $$ H; iintro H
  iapply (receive m K c 5 [6] _ (sem_recv (peer c 5) (k0_off6_eq c 5) _)) $$ H; iintro H
  iapply (receive m K c 6 [] _ (sem_recv (peer c 6) (k0_off6_eq c 6) _)) $$ H; iintro H
  unfold receiving
  rw [bigSep_steps_back, bigSep_sep']
  icases H with ⟨-, HO, -, Hgot, HzR⟩
  -- the eight contributions, added up
  ihave Hr := (Entails.of_eq ((rPts_all c (gotAll m c)).trans (bigSep_device_peers c fun s => rPts c s (gotAll m c))).symm) $$ [Hown Hgot]
  · isplitl [Hown] <;> iassumption
  iapply (read_slot m c 0 rfl) $$ Hr; iintro Hr
  iapply (read_slot m c 1 rfl) $$ Hr; iintro Hr
  iapply (read_slot m c 2 rfl) $$ Hr; iintro Hr
  iapply (read_slot m c 3 rfl) $$ Hr; iintro Hr
  iapply (read_slot m c 4 rfl) $$ Hr; iintro Hr
  iapply (read_slot m c 5 rfl) $$ Hr; iintro Hr
  iapply (read_slot m c 6 rfl) $$ Hr; iintro Hr
  iapply (read_slot m c 7 rfl) $$ Hr; iintro Hr
  iapply (wp_load 𝒱₀ (c : Thread nD τ) none Set.univ (m := oM) (Finset.subset_univ _)) $$ Hout; iintro Hout
  iapply (wp_store 𝒱₀ (c : Thread nD τ) none Set.univ (m := oM) (r := oRect) (Mk := Finset.univ) (Finset.subset_univ _)) $$ Hout; iintro Hout
  rw [show ((oM.access oRect : View sig .tc _ _ _).write (Elt F) f2 (k0_pay11 (part m 0 c) (part m 1 c) (part m 2 c) (part m 3 c)
      (part m 4 c) (part m 5 c) (part m 6 c) (part m 7 c)) Finset.univ) = outAt m c from
    Memref.write_access_unit_zero_univ (Elt F) cc0_stg2_0 (funext fun a => by fin_cases a <;> rfl) _ f2 _]
  -- waiting until the seven sent blocks have left
  ihave H := (returning_intro m K c) $$ [HO HcS HatS]
  · isplitr; · iexact Hrec
    isplitl [HO]; · iexact HO
    isplitl [HcS] <;> iassumption
  iapply (take_back m K c 0 [1, 2, 3, 4, 5, 6] [] (sem_send 0 rfl _)) $$ H; iintro H
  iapply (take_back m K c 1 [2, 3, 4, 5, 6] _ (sem_send 1 rfl _)) $$ H; iintro H
  iapply (take_back m K c 2 [3, 4, 5, 6] _ (sem_send 2 rfl _)) $$ H; iintro H
  iapply (take_back m K c 3 [4, 5, 6] _ (sem_send 3 rfl _)) $$ H; iintro H
  iapply (take_back m K c 4 [5, 6] _ (sem_send 4 rfl _)) $$ H; iintro H
  iapply (take_back m K c 5 [6] _ (sem_send 5 rfl _)) $$ H; iintro H
  iapply (take_back m K c 6 [] _ (sem_send 6 rfl _)) $$ H; iintro H
  unfold returning
  rw [bigSep_steps_back, bigSep_sep']
  icases H with ⟨-, HO, -, Hsent, HzS⟩
  ihave Hs := (Entails.of_eq (sPts_all c (sentAll m c)).symm) $$ Hsent
  imod (own_cell_close m K c) $$ [HatO] with HzO
  · isplitr; · iexact Hrec
    iexact HatO
  rw [wp_ret]; imodintro
  iapply Hk
  isplitl [HzB HzS HzO HzR]
  · unfold quiet
    rw [bigSep_cells c fun sm => (semVal ((c : Thread nD τ), sm) 0 : sProp 𝕄)]
    isplitl [HzB]; · iexact HzB
    isplitl [HzS]; · iexact HzS
    isplitl [HzO] <;> iassumption
  isplitl [Hs Hr]
  · isplitl [Hs]; · iexists _; iexact Hs
    iexists _; iexact Hr
  isplitl [HO]; · iexact HO
  isplitl [Hab] <;> iassumption

end Phases

end Cert.KernelIdeal.Exchange

end
-- ==== Proof.KernelIdeal.Run.lean ====
/-
# The run of the eight devices

The exchange's cells, tokens and credit are set up before the kernel starts, every device runs its body, and at the end
each array holds what its window wrote and every semaphore is at zero.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The machine at the start: memory `m`, every counter zero. -/
def s₀ : MemSt nD τ sig (Elt F) := ⟨m, fun _ => 0, ρ⟩

/-! ## The staging windows and the body's obligation -/

/-- What device `c` starts the exchange with. -/
def start (c : Dev nD) : sProp 𝕄 := iprop((∃ K, ghost m K c) ∗ credits c ∗ levAts L lv)
def Φ₀ (c : Dev nD) : sProp 𝕄 := iprop(start m c ∗ scratch c)
def Φ₁ (c : Dev nD) : sProp 𝕄 := iprop(quiet c ∗ scratch c)

/-- The windows' contents over the kernel's one point, and what the body holds and owes around it. -/
def dats (_ : Fin 1) (c : Dev nD) : Dat τ (Elt F) Unit ℕ UU ℕ cfg0 c where
  A w := m ((cfg0.win w).arr.view.loc (c : Thread nD τ))
  after w _ := match w with
    | ⟨0, _⟩ => aStg m c
    | ⟨1, _⟩ => bStg m c
    | ⟨2, _⟩ => outAt m c
  Φ t := match t with
    | ⟨0, _⟩ => Φ₀ m c
    | ⟨_ + 1, _⟩ => Φ₁ c
  q _ := fullShare
  owed t := match t with
    | ⟨0, _⟩ => owed c steps steps
    | ⟨_ + 1, _⟩ => 0

theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ held c b f) := by
  unfold owns; simp only [Memref.view_whole, View.read_whole, View.set_whole]

theorem three_windows (Φ : Fin cfg0.W → sProp 𝕄) : bigSep Finset.univ Φ = iprop(Φ (0 : Fin 3) ∗ Φ (1 : Fin 3) ∗ Φ (2 : Fin 3)) := bigSep_W0 Φ

/-- A staging buffer holding contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ held c b f)

def bodyPre (c : Dev nD) : sProp 𝕄 :=
  iprop(Φ₀ m c ∗ (dats m 0 c).owesAt () t0_0.castSucc ∗ (∃ d, stg c cc0_stg0_0 ((dats m 0 c).before (0 : Fin 3) t0_0 d))
    ∗ (∃ d, stg c cc0_stg1_0 ((dats m 0 c).before (1 : Fin 3) t0_0 d)) ∗ (∃ d, stg c cc0_stg2_0 ((dats m 0 c).before (2 : Fin 3) t0_0 d)))
def bodyPost (c : Dev nD) : sProp 𝕄 :=
  iprop(Φ₁ c ∗ (dats m 0 c).owesAt () t0_0.succ ∗ stg c cc0_stg0_0 (aStg m c) ∗ stg c cc0_stg1_0 (bStg m c) ∗ stg c cc0_stg2_0 (outAt m c))

/-- The body on device `c` takes the staged operands to the staged result. -/
theorem body_obligation (c : Dev nD) : BodyObligation (dats (F := F) m 0 c) (defs₀ (F := F)) 𝒱₀ () Set.univ := fun t => by
  rw [fin_N0 t]
  rw [three_windows, three_windows]
  simp only [owns_buffer]
  show bodyPre m c ⊢ runs c (cc0_body aM (Memref.isWhole_whole _) bM (Memref.isWhole_whole _) oM (Memref.isWhole_whole _)
    sM (Memref.isWhole_whole _) rM (Memref.isWhole_whole _) cc0_scratch2 cc0_scratch3) (fun _ => bodyPost m c)
  unfold bodyPre Φ₀ start Dat.owesAt Pipeline.owesWithin
  iintro ⟨⟨⟨⟨%K, Hg⟩, Hcr, Hlev⟩, Hscr⟩, ⟨%W, %hW, HO⟩, ⟨%d0, %g0, %hg0, Ha⟩, ⟨%d1, %g1, %hg1, Hb⟩, ⟨%d2, %g2, %hg2, Ho⟩⟩
  have ha : g0 = aStg m c := by rw [hg0]; unfold Dat.before; rw [if_pos (fetch0_0 t0_0)]; rfl
  have hb : g1 = bStg m c := by rw [hg1]; unfold Dat.before; rw [if_pos (fetch0_1 t0_0)]; rfl
  subst ha hb
  iapply (body_runs m K c (fun _ => bodyPost m c)) $$ [Hg Hcr Hlev Hscr HO Ha Hb Ho]
  · isplitl [Hg]; · iexact Hg
    isplitl [Hcr]; · iexact Hcr
    isplitl [Hlev]; · iexact Hlev
    isplitl [Hscr]; · iexact Hscr
    isplitl [HO]; · unfold owing; iexists W; iexact HO
    isplitl [Ha Hb]
    · unfold operands; isplitl [Ha] <;> iassumption
    iexists g2; iexact Ho
  unfold owing operands
  iintro ⟨Hq, Hscr, ⟨%W', HO⟩, ⟨Ha, Hb⟩, Ho⟩
  unfold bodyPost Φ₁ Dat.owesAt Pipeline.owesWithin
  isplitl [Hq Hscr]
  · isplitl [Hq] <;> iassumption
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ho

/-! ## The cells and their tokens, before the kernel starts -/

/-- The kernel's own semaphores: the transfers' fifteen. -/
abbrev osem : Fin 15 → SemLoc sig := fun i => csem i.succ
theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 16 → GSem nD τ sig) := by
  rintro ⟨c, i⟩ ⟨c', i'⟩ h
  have h1 : c = c' := congrArg (fun g : GSem nD τ sig => g.1.1) h
  exact Prod.ext h1 (csem_injective (congrArg Prod.snd h))
def exCells : Finset (GSem nD τ sig) := Finset.univ.map ⟨kcell, kcell_injective⟩

/-- The duties of device `c`'s own cells, by kind of cell and step: a report at its barrier from the peer of the step, a sent
    slot's transfer, the transfer into the peer's incoming slot. -/
def tokSem (c : Dev nD) (j : Fin 3 × Fin 7) : SemLoc sig × Fin 7 := match j.1 with
  | 0 => (.reg barS, j.2) | 1 => (.dma (sendS j.2), 0) | 2 => (.dma (recvS (peer c j.2)), 0)
def tokOf (cj : Dev nD × (Fin 3 × Fin 7)) : GSem nD τ sig × ℕ × Fin 7 := (((cj.1 : Thread nD τ), (tokSem cj.1 cj.2).1), 0, (tokSem cj.1 cj.2).2)
set_option maxRecDepth 8000 in
theorem tokSem_injective : ∀ (c : Dev nD) (j j' : Fin 3 × Fin 7), tokSem c j = tokSem c j' → j = j' := by decide
theorem tokOf_injective : Function.Injective tokOf := by
  rintro ⟨c, j⟩ ⟨c', j'⟩ h
  have h1 : c = c' := congrArg (fun x : GSem nD τ sig × ℕ × Fin 7 => x.1.1.1) h
  subst h1
  exact Prod.ext rfl (tokSem_injective c j j' (congrArg (fun x : GSem nD τ sig × ℕ × Fin 7 => (x.1.2, x.2.2)) h))
def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- The tokens of device `c`'s own cells' duties. -/
def toks (c : Dev nD) : sProp 𝕄 :=
  iprop((bigSep Finset.univ fun k : Fin 7 => dutyTok EX (barCell c) 0 k) ∗ (bigSep Finset.univ fun k : Fin 7 => dutyTok EX (sendCell c k) 0 0)
    ∗ bigSep Finset.univ fun k : Fin 7 => dutyTok EX (recvCell c (peer c k)) 0 0)
/-- What device `c` is dealt at first: its cells' states and positions, and their duties' tokens. -/
def G (c : Dev nD) : sProp 𝕄 :=
  iprop((bigSep Finset.univ fun i : Fin 16 => roundState EX (sched m) (kcell (c, i)) 0)
    ∗ ((bigSep Finset.univ fun i : Fin 16 => atPos EX (kcell (c, i)) 0 ∅ 0) ∗ bigSep Finset.univ fun i : Fin 16 => reached EX (kcell (c, i)) 0) ∗ toks c)
/-- What it holds once every cell's invariant is set up and the tokens have gone to the devices that pay. -/
def G' (c : Dev nD) : sProp 𝕄 := iprop(∃ K, ghost m K c)

theorem over_cells (Φ : GSem nD τ sig → sProp 𝕄) :
    bigSep exCells Φ = bigSep Finset.univ fun c : Dev nD => bigSep Finset.univ fun i : Fin 16 => Φ (kcell (c, i)) := by
  unfold exCells; rw [bigSep_map, bigSep_univ_prod]; rfl
theorem over_toks : bigSep exToks (fun x => (dutyTok EX x.1 x.2.1 x.2.2 : sProp 𝕄)) = bigSep Finset.univ fun c : Dev nD => toks c := by
  unfold exToks; rw [bigSep_map, bigSep_univ_prod]
  refine bigSep_congr fun c _ => ?_
  rw [bigSep_univ_prod, bigSep_univ_eq_bigSepL [(0 : Fin 3), 1, 2] (by decide) (by decide)]
  rfl

theorem fund_exchange : BI.own (EX (initOf exCells exToks)) ⊢ (|==> bigSep Finset.univ (G m) : sProp 𝕄) := by
  iintro HX
  imod (Rounds.fund EX (sched m) exCells exToks) $$ HX with ⟨Hst, Hr, Hat, Htok⟩
  imodintro
  ihave Hst := (Entails.of_eq (over_cells fun g => roundState EX (sched m) g 0)) $$ Hst
  ihave Hat := (Entails.of_eq (over_cells fun g => atPos EX g 0 ∅ 0)) $$ Hat
  ihave Hr := (Entails.of_eq (over_cells fun g => reached EX g 0)) $$ Hr
  ihave Htok := (Entails.of_eq over_toks) $$ Htok
  unfold G; simp only [bigSep_sep']
  isplitl [Hst]; · iexact Hst
  isplitl [Hat Hr]
  · isplitl [Hat] <;> iassumption
  iexact Htok

/-- A device's sixteen cells at zero are its barrier semaphore and the kernel's own fifteen at zero. -/
theorem quiet_eq (c : Dev nD) :
    (quiet c : sProp 𝕄) = iprop(unscopedSems0 c ∗ Pipeline.ownSems0 (Ix := Unit) (Name := ℕ) (U := UU) (Lvl := ℕ) (Val := Elt F) (τ := τ) osem c) := by
  unfold quiet unscopedSems0
  rw [bigSep_eq_bigSepL_of_eq [SemLoc.reg barS] (by decide) (by decide), Pipeline.ownSems0_eq_of_list c osem (List.finRange 15) (by decide) (by decide),
    bigSep_univ_eq_bigSepL (0 :: (List.finRange 15).map Fin.succ) (by decide) (by decide), bigSepL_cons', bigSepL_map]
  rfl

theorem device_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv EX (sched m) κ (kcell (c, i))))
          ∗ ((bigSep Finset.univ fun i : Fin 16 => atPos EX (kcell (c, i)) 0 ∅ 0) ∗ bigSep Finset.univ fun i : Fin 16 => reached EX (kcell (c, i)) 0) ∗ toks c) := by
  unfold G
  iintro ⟨Hos, Hus, Hst, Hat, Htok⟩
  ihave Hv := (Entails.of_eq (quiet_eq (F := F) c).symm) $$ [Hos Hus]
  · isplitl [Hus] <;> iassumption
  imod (show iprop(quiet c ∗ bigSep Finset.univ fun i : Fin 16 => roundState EX (sched m) (kcell (c, i)) 0)
      ⊢ (|={Set.univ}=> bigSep Finset.univ fun i => iprop(∃ κ : ℕ, cellInv EX (sched m) κ (kcell (c, i))) : sProp 𝕄) from by
        unfold quiet
        rw [← bigSep_sep']
        exact (bigSep_mono fun i _ => (Rounds.body_intro EX (sched m) (kcell (c, i))).trans inv_alloc).trans (bigSep_fupd _ _)) $$ [Hv Hst] with Hinv
  · isplitl [Hv] <;> iassumption
  imodintro
  isplitl [Hinv]; · iexact Hinv
  isplitl [Hat] <;> iassumption

/-- A barrier's tokens go to the peers that report there, an incoming slot's to the peer that fills it. -/
theorem toks_across : (bigSep Finset.univ fun c : Dev nD => (toks c : sProp 𝕄)) ⊢ bigSep Finset.univ fun c : Dev nD => payToks c := by
  unfold toks payToks
  simp only [bigSep_sep']
  rw [bigSep_across fun p => (dutyTok EX (barCell p.1) 0 p.2 : sProp 𝕄),
    bigSep_across fun p => (dutyTok EX (recvCell p.1 (peer p.1 p.2)) 0 0 : sProp 𝕄)]
  simp only [peer_peer_rev]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BI.sep_mono (BI.bigSep_of_persistent S R) (BI.Entails.refl (bigSep S Φ))).trans
    ((Entails.of_eq (bigSep_sep' S (fun _ => R) Φ).symm).trans (bigSep_mono h))

theorem regroup :
    (bigSep Finset.univ fun c : Dev nD => iprop((bigSep Finset.univ fun i => iprop(∃ κ : ℕ, cellInv EX (sched m) κ (kcell (c, i))))
        ∗ ((bigSep Finset.univ fun i : Fin 16 => atPos EX (kcell (c, i)) 0 ∅ 0) ∗ bigSep Finset.univ fun i : Fin 16 => reached EX (kcell (c, i)) 0) ∗ toks c) : sProp 𝕄)
      ⊢ bigSep Finset.univ (G' m) := by
  simp only [bigSep_sep']
  rw [← bigSep_univ_prod (fun ci : Dev nD × Fin 16 => iprop(∃ κ : ℕ, cellInv EX (sched m) κ (kcell ci))),
    ← bigSep_univ_prod (fun ci : Dev nD × Fin 16 => (reached EX (kcell ci) 0 : sProp 𝕄))]
  iintro ⟨HI, ⟨Hat, #HR⟩, Htok⟩
  ihave HK := (BI.bigSep_exists_pi Finset.univ (fun (ci : Dev nD × Fin 16) (κ : ℕ) => (cellInv EX (sched m) κ (kcell ci) : sProp 𝕄))) $$ HI
  icases HK with ⟨%K, #HI⟩
  ihave Htk := (toks_across (F := F)) $$ Htok
  iapply (with_persistent (R := records m K) (Φ := fun c => iprop((bigSep Finset.univ fun i : Fin 16 => atPos EX (kcell (c, i)) 0 ∅ 0) ∗ payToks c))
    fun c _ => show iprop(records m K ∗ (bigSep Finset.univ fun i : Fin 16 => atPos EX (kcell (c, i)) 0 ∅ 0) ∗ payToks c) ⊢ G' m c by
      iintro H; unfold G' ghost; iexists K; iexact H)
  isplitr
  · unfold records; isplitl; · iexact HI
    iexact HR
  rw [bigSep_sep']
  isplitl [Hat] <;> iassumption

/-- Every device's semaphores become the exchange's cells, all at once. -/
theorem alloc_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => device_alloc m c).trans (bigSep_fupd _ _)).trans (BI.fupd_mono (regroup m))

/-! ## The credit each device may wait on -/

abbrev O₀ (d : Dev nD) : CellTallies nD τ sig Unit := owed d steps steps

theorem cell_eq_iff (a b : Dev nD) (x y : SemLoc sig) : (((a : Thread nD τ), x) : GSem nD τ sig) = ((b : Thread nD τ), y) ↔ a = b ∧ x = y :=
  ⟨fun h => ⟨congrArg (fun g : GSem nD τ sig => g.1.1) h, congrArg Prod.snd h⟩, fun ⟨h, h'⟩ => h ▸ h' ▸ rfl⟩

/-- A sum of tallies counts, at a cell, those of its terms that are that cell's. -/
theorem sum_tallies {I : Type} (l : List I) (D : I → GSem nD τ sig) (n : ℕ) (g : GSem nD τ sig) :
    (l.map fun k => (tallyAt (D k) () n : CellTallies nD τ sig Unit)).sum g () = n * (l.map fun k => if g = D k then 1 else 0).sum := by
  induction l with
  | nil => rfl
  | cons k l ih =>
    rw [List.map_cons, List.sum_cons, Pi.add_apply, Finsupp.add_apply, tallyAt_apply, ih, List.map_cons, List.sum_cons, Nat.mul_add]
    congr 1
    by_cases h : g = D k <;> simp [h]

theorem owed_at (d : Dev nD) (g : GSem nD τ sig) :
    O₀ d g () = N * (steps.map fun k => if g = recvCell (peer d k) d then 1 else 0).sum + (steps.map fun k => if g = barCell (peer d k) then 1 else 0).sum := by
  unfold O₀ owed
  rw [Pi.add_apply, Finsupp.add_apply, sum_tallies, sum_tallies, Nat.one_mul]

/-- All devices together owe a barrier one unit for each of its seven peers, -/
theorem owed_to_bar (c : Dev nD) : (∑ d : Dev nD, O₀ d (barCell c) ()) = 7 := by
  simp only [owed_at, cell_eq_iff, reduceCtorEq, and_false, and_true, if_false]
  have h : ∀ c : Fin 8, (∑ d : Fin 8, (steps.map fun k => if c = peer d k then 1 else 0).sum) = 7 := by decide
  refine (Finset.sum_congr rfl fun d _ => ?_).trans (h c)
  rw [show (steps.map fun _ => 0).sum = 0 from rfl, Nat.mul_zero, Nat.zero_add]
/-- and an incoming slot one block. -/
theorem owed_to_slot (c : Dev nD) (j : Fin 7) : (∑ d : Dev nD, O₀ d (recvCell c (peer c j)) ()) = N := by
  simp only [owed_at, cell_eq_iff, reduceCtorEq, and_false, if_false]
  have h : ∀ (c : Fin 8) (j : Fin 7), (∑ d : Fin 8, (steps.map fun k => if c = peer d k ∧ (SemLoc.dma (recvS (peer c j)) : SemLoc sig) = .dma (recvS d) then 1 else 0).sum) = 1 := by decide
  refine (Finset.sum_congr rfl fun d _ => ?_).trans ((Finset.mul_sum _ _ N).symm.trans ((congrArg (N * ·) (h c j)).trans (Nat.mul_one N)))
  rw [show (steps.map fun _ => 0).sum = 0 from rfl, Nat.add_zero]

/-- A cell's credit at the start is what all devices together owe it. -/
theorem credit_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem credits_intro (c : Dev nD) : (Pipeline.launchCred O₀ c : sProp 𝕄) ⊢ credits c := by
  unfold Pipeline.launchCred
  refine (bigSep_subset (t := Finset.univ.map ⟨csem, csem_injective⟩) (Finset.subset_univ _)).trans ?_
  rw [bigSep_map]
  refine (Entails.of_eq (bigSep_cells c fun sm => cred (tallyOn ((c : Thread nD τ), sm) (launchCredit (Pipeline.owing O₀) 0 ((c : Thread nD τ), sm))))).trans ?_
  unfold credits
  rw [credit_at _ 7 (owed_to_bar c), bigSep_congr fun k _ => congrArg cred (credit_at _ N (owed_to_slot c k))]
  iintro ⟨HB, -, -, HR⟩
  isplitl [HB] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G'
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [quiet_eq]
  iintro ⟨⟨H1, H2⟩, H3⟩
  isplitl [H1]; · iexact H1
  isplitl [H2] <;> iassumption

theorem waits (c : Dev nD) : (levAts L lv : sProp 𝕄) ⊢ Pipeline.cellsWaits cfgs (dats m) () 0 c :=
  Pipeline.cellsWaits_intro cfgs (dats m) () 0 c fun w s t => by
    have hq : (((cfgs 0).win w).sem s).val < 10 := by fin_cases w <;> fin_cases s <;> decide
    rcases t with ⟨_ | _, ht⟩
    · exact mayWait_stage c _ hq steps steps
    · exact (mayWait_stage c _ hq [] []).trans (Entails.of_eq (by rw [owed_nil]; rfl))

/-- The arrays' contents at the end. -/
def finalA (c : Dev nD) (w : Fin cfg0.W) : Buf (Elt F) ((cfg0.win w).arr.view.loc (c : Thread nD τ)) := (dats m 0 c).arrAt w cfg0.N

def Final : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every counter at zero, every weakly fair run of the eight devices ends, with each array at its
    final contents and every counter at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := alloc_all m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they began. -/
theorem finalA_a (c : Dev nD) : finalA m c (0 : Fin 3) = m ((c : Thread nD τ).loc main_arg0) := (dats (F := F) m 0 c).arrAt_in (0 : Fin 3) rfl _
theorem finalA_b (c : Dev nD) : finalA m c (1 : Fin 3) = m ((c : Thread nD τ).loc main_arg1) := (dats (F := F) m 0 c).arrAt_in (1 : Fin 3) rfl _

end Cert.KernelIdeal.Exchange

end
-- ==== Proof.KernelIdeal.Arrays.lean ====
/-
# What the arrays hold

Each of the kernel's windows is a whole array. So the staged operands are the operand arrays, the rows a device reads
are rows of the left array, and the result array ends holding what the body left in its staging buffer.
-/
module

public import proofs.«01_k».proof.Proof.KernelIdeal.Run
public import Idealize.ShloMosaic.Lib.Pipeline.Value
public import Idealize.ShloMosaic.Lib.ValueIdx

@[expose] public section

noncomputable section

namespace Cert.KernelIdeal.Exchange

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- The staged left operand is device `c`'s left array. -/
theorem aStg_eq (c : Dev nD) : aStg m c = m ((c : Thread nD τ).loc main_arg0) :=
  Memref.read_access_unit_zero (Elt F) main_arg0 (funext fun a => Nat.zero_mul _) _ _

/-- The staged right operand is device `c`'s right array. -/
theorem bStg_eq (c : Dev nD) : bStg m c = m ((c : Thread nD τ).loc main_arg1) :=
  Memref.read_access_unit_zero (Elt F) main_arg1 (funext fun a => Nat.zero_mul _) _ _

/-- Row `x` of the rows read for device `c` is row `128 c + x` of device `j`'s left array. -/
theorem aRows_apply (j c : Dev nD) (x : Fin 128) (k : Fin 512) (r : Fin 1024) (hr : r.val = 128 * c.val + x.val) :
    aRows m j c (ix2 x k) = m ((j : Thread nD τ).loc main_arg0) (ix2 r k) := by
  unfold aRows
  rw [View.readAt_apply, View.read_apply, aStg_eq]
  refine congrArg (m ((j : Thread nD τ).loc main_arg0)) (funext fun a => Fin.ext ?_)
  match a with
  | ⟨0, _⟩ => show 128 * c.val + 1 * x.val = r.val; omega
  | ⟨1, _⟩ => show 0 + 1 * k.val = k.val; omega

/-- What the result array of device `c` receives when its window is written back is what the body left. -/
theorem written_back (c : Dev nD) (t : Fin cfg0.N) :
    (dats m 0 c).flushed 2 t = ((cfg0.win 2).blk t).view.read (Elt F) (outAt m c) := by
  rw [fin_N0 t]
  exact (Memref.read_access_unit_zero (Elt F) main_v1 (funext fun a => Nat.zero_mul _) _ (outAt m c)).symm

/-- The written block is the whole result array. -/
theorem written_everywhere (i : main_v1.ty.shape.Idx) : i ∈ ((cfg0.win 2).blk t0_0).view.set := by
  show i ∈ ((View.whole main_v1).slice (win0_2.rect t0_0)).set
  rw [View.set_slice_whole, Rect.mem_set_unit]
  intro a
  have h : ∀ a : Fin 2, win0_2.index t0_0 a * win0_2.size a = 0 ∧ win0_2.xsize (grid0.coords t0_0) a = S128x1024.size a := by
    decide +kernel
  show win0_2.index t0_0 a * win0_2.size a ≤ (i a : Nat)
    ∧ (i a : Nat) < win0_2.index t0_0 a * win0_2.size a + win0_2.xsize (grid0.coords t0_0) a
  rw [(h a).1, (h a).2, Nat.zero_add]
  exact ⟨Nat.zero_le _, (i a).isLt⟩

/-- The result array of device `c` ends holding the sum of the eight contributions to `c`'s block. -/
theorem finalA_out (c : Dev nD) : finalA m c (2 : Fin 3) = outAt m c :=
  (dats m 0 c).arrAt_eq_of_cover 2 (outAt m c) (fun t _ => written_back m c t)
    fun i => ⟨t0_0, flush0_2 t0_0, written_everywhere i⟩

end Cert.KernelIdeal.Exchange

end
-- ==== Proof.Value.Block.lean ====
/-
# What one block computes

Over the extended reals a device's contribution to a block is the product of 128 rows of a left operand by a right
operand, and a device's result is the sum of the eight contributions it holds.
-/
module

public import proofs.«01_k».proof.Proof.KernelIdeal.Body
public import Idealize.ShloMosaic.Lib.MatmulPlain
public import Idealize.ShloMosaic.Lib.ValueLayout
public import Idealize.ShloMosaic.Lib.Pipeline.Value

@[expose] public section

noncomputable section

namespace Cert.Value

open Cert.KernelIdeal Cert.KernelIdeal.Gen
open Idealize.ShloMosaic Idealize.ShloMosaic.ValueIdx

/-- One contribution, entry by entry: row `x` of the left rows times column `y` of the right operand. -/
theorem contribution_apply (a : FVec Ideal S128x512 .f32) (b : FVec Ideal S512x1024 .f32) (x : Fin 128) (y : Fin 1024) :
    k0_pay1 a b (ix3 (0 : Fin 1) x y) = ∑ k : Fin 512, a (ix2 x k) * b (ix2 k y) := by
  refine (shapeCast_ab_1ab_apply (matmul dot_S128x512_S512x1024_S128x1024_1_0_0_1_n_n none
    (shapeCast S128x512 a shapeCasts_S128x512_S128x512) (shapeCast S512x1024 b shapeCasts_S512x1024_S512x1024)
    (constant S128x1024 .f32 0x00000000#32)) shapeCasts_S128x1024_S1x128x1024 0 x y).trans ?_
  rw [shapeCast_self, shapeCast_self]
  refine (Ideal.matmul_plain_apply none a b _ x y).trans ?_
  show Ideal.ofBits .f32 0x00000000#32 + _ = _
  rw [Ideal.ofBits_zero_f32, zero_add]

/-- The result, entry by entry: the sum of the eight contributions' entries. -/
theorem total_apply (p : Fin 8 → FVec Ideal S1x128x1024 .f32) (x : Fin 128) (y : Fin 1024) :
    k0_pay11 (p 0) (p 1) (p 2) (p 3) (p 4) (p 5) (p 6) (p 7) (ix2 x y) = ∑ j, p j (ix3 (0 : Fin 1) x y) := by
  have cast (j : Fin 8) : shapeCast S128x1024 (p j) shapeCasts_S1x128x1024_S128x1024 (ix2 x y) = p j (ix3 (0 : Fin 1) x y) :=
    shapeCast_1ab_ab_apply _ _ x y
  rw [Fin.sum_univ_eight, ← cast 0, ← cast 1, ← cast 2, ← cast 3, ← cast 4, ← cast 5, ← cast 6, ← cast 7]
  rfl

end Cert.Value

end
-- ==== Proof.Value.Kernel.lean ====
/-
# What the kernel leaves on each device

Entry `(x, y)` of device `c`'s result is the sum over the eight devices of row `128 c + x` of a device's left array times
column `y` of its right array.
-/
module

public import proofs.«01_k».proof.Proof.KernelIdeal.Arrays
public import proofs.«01_k».proof.Proof.Value.Block

@[expose] public section

noncomputable section

namespace Cert.Value

open Cert.KernelIdeal Cert.KernelIdeal.Gen Cert.KernelIdeal.Exchange
open Idealize.ShloMosaic Idealize.ShloMosaic.TcCoe Idealize.ShloMosaic.ValueIdx

variable (m : (ℓ : Loc nD τ sig) → Buf (Elt Ideal) ℓ)

/-- Device `j`'s left and right arrays, as arrays of extended reals. -/
abbrev leftOf (j : Dev nD) : FVec Ideal S1024x512 .f32 := m ((j : Thread nD τ).loc main_arg0)
abbrev rightOf (j : Dev nD) : FVec Ideal S512x1024 .f32 := m ((j : Thread nD τ).loc main_arg1)

/-- Row `x` of block `c`, as a row of the full result. -/
def rowOf (c : Fin 8) (x : Fin 128) : Fin 1024 := ⟨128 * c.val + x.val, by omega⟩

/-- Device `c`'s result, entry by entry. -/
theorem outAt_apply (c : Dev nD) (x : Fin 128) (y : Fin 1024) :
    outAt m c (ix2 x y) = ∑ j : Fin 8, ∑ k : Fin 512, leftOf m j (ix2 (rowOf c x) k) * rightOf m j (ix2 k y) := by
  refine (total_apply (fun j => part m j c) x y).trans (Finset.sum_congr rfl fun j _ => ?_)
  refine (contribution_apply (aRows m j c) (bStg m j) x y).trans (Finset.sum_congr rfl fun k _ => ?_)
  rw [aRows_apply m j c x k (rowOf c x) rfl, bStg_eq]

end Cert.Value

end
-- ==== Proof.Value.Reference.lean ====
/-
# What the reference computes

Entry `(r, y)` of the reference's result is row `r` of the full left array times column `y` of the full right array: one
sum of 4096 products.
-/
module

public import proofs.«01_k».proof.Proof.Gen.ReferenceIdeal.Run
public import Idealize.ShloMosaic.Lib.StackMember
public import Idealize.ShloMosaic.Lib.ValueIdx

@[expose] public section

noncomputable section

namespace Cert.Value

open Cert.ReferenceIdeal Cert.ReferenceIdeal.Gen
open Idealize.ShloMosaic Idealize.ShloMosaic.ValueIdx

/-- The reference's product of two full arrays. -/
def product (A : FVec Ideal S1024x4096 .f32) (B : FVec Ideal S4096x1024 .f32) : FVec Ideal S1024x1024 .f32 :=
  Host.dotGeneral dot_S1024x4096_S4096x1024_S1024x1024_1_0_0_1_n_n none A B

/-- The product, entry by entry. -/
theorem product_apply (A : FVec Ideal S1024x4096 .f32) (B : FVec Ideal S4096x1024 .f32) (r y : Fin 1024) :
    product A B (ix2 r y) = ∑ k : Fin 4096, A (ix2 r k) * B (ix2 k y) :=
  StackMember.dotGeneral_plain_apply none A B r y

end Cert.Value

end
-- ==== Proof.Value.Equation.lean ====
/-
# The equation

The contracted axis of 4096 entries is eight runs of 512, one on each device. So a sum over that axis is the sum over the
devices of the sums over their runs, and device `c`'s result is block `c` of the reference's product.
-/
module

public import proofs.«01_k».proof.Proof.Value.Kernel
public import proofs.«01_k».proof.Proof.Value.Reference
public import Idealize.ShloMosaic.Lib.Layout

@[expose] public section

noncomputable section

namespace Cert.Value

open Idealize.ShloMosaic Idealize.ShloMosaic.TcCoe Idealize.ShloMosaic.ValueIdx

/-- Position `k` of device `j`'s run, as a position of the contracted axis. -/
def place (j : Fin 8) (k : Fin 512) : Fin 4096 := ⟨512 * j.val + k.val, by omega⟩

/-- Every position of the contracted axis lies in exactly one device's run. -/
def places : Fin 8 × Fin 512 ≃ Fin 4096 where
  toFun p := place p.1 p.2
  invFun i := (⟨i.val / 512, by omega⟩, ⟨i.val % 512, by omega⟩)
  left_inv p := Prod.ext (Fin.ext (by show (512 * p.1.val + p.2.val) / 512 = p.1.val; omega))
    (Fin.ext (by show (512 * p.1.val + p.2.val) % 512 = p.2.val; omega))
  right_inv i := Fin.ext (by show 512 * (i.val / 512) + i.val % 512 = i.val; omega)

/-- A sum over the contracted axis, taken device by device. -/
theorem sum_by_device (f : Fin 4096 → EReal) : ∑ i, f i = ∑ j : Fin 8, ∑ k : Fin 512, f (place j k) := by
  rw [← Equiv.sum_comp places f, Fintype.sum_prod_type]
  rfl

/-- Column `k` of a left array's block `j` is column `512 j + k` of the array. -/
theorem left_block (A : FVec Ideal ⟨2, ![1024, 4096]⟩ .f32) (j : Fin 8) (r : Fin 1024) (k : Fin 512) :
    (Layout.block ⟨2, ![1024, 512]⟩ ⟨2, ![1024, 4096]⟩ 1 8 j A (by decide)) (ix2 r k) = A (ix2 r (place j k)) :=
  congrArg A (funext fun a => Fin.ext (match a with
    | ⟨0, _⟩ => rfl
    | ⟨1, _⟩ => show j.val * 512 + k.val = 512 * j.val + k.val by omega))

/-- Row `k` of a right array's block `j` is row `512 j + k` of the array. -/
theorem right_block (B : FVec Ideal ⟨2, ![4096, 1024]⟩ .f32) (j : Fin 8) (k : Fin 512) (y : Fin 1024) :
    (Layout.block ⟨2, ![512, 1024]⟩ ⟨2, ![4096, 1024]⟩ 0 8 j B (by decide)) (ix2 k y) = B (ix2 (place j k) y) :=
  congrArg B (funext fun a => Fin.ext (match a with
    | ⟨0, _⟩ => show j.val * 512 + k.val = 512 * j.val + k.val by omega
    | ⟨1, _⟩ => rfl))

/-- Row `x` of the result's block `c` is row `128 c + x` of the result. -/
theorem result_block (R : FVec Ideal ⟨2, ![1024, 1024]⟩ .f32) (c : Fin 8) (x : Fin 128) (y : Fin 1024) :
    (Layout.block ⟨2, ![128, 1024]⟩ ⟨2, ![1024, 1024]⟩ 0 8 c R (by decide)) (ix2 x y) = R (ix2 (rowOf c x) y) :=
  congrArg R (funext fun a => Fin.ext (match a with
    | ⟨0, _⟩ => show c.val * 128 + x.val = 128 * c.val + x.val by omega
    | ⟨1, _⟩ => rfl))

variable (m : (ℓ : Loc KernelIdeal.nD KernelIdeal.τ KernelIdeal.sig) → Buf (Elt Ideal) ℓ)

/-- When every device holds its blocks of two full arrays, device `c` ends with block `c` of their product. -/
theorem outAt_eq_block (A : FVec Ideal ⟨2, ![1024, 4096]⟩ .f32) (B : FVec Ideal ⟨2, ![4096, 1024]⟩ .f32)
    (hA : ∀ j, leftOf m j = Layout.block ⟨2, ![1024, 512]⟩ ⟨2, ![1024, 4096]⟩ 1 8 j A)
    (hB : ∀ j, rightOf m j = Layout.block ⟨2, ![512, 1024]⟩ ⟨2, ![4096, 1024]⟩ 0 8 j B) (c : Fin 8) :
    KernelIdeal.Exchange.outAt m c = Layout.block ⟨2, ![128, 1024]⟩ ⟨2, ![1024, 1024]⟩ 0 8 c (product A B) := by
  have entry (x : Fin 128) (y : Fin 1024) : KernelIdeal.Exchange.outAt m c (ix2 x y)
      = (Layout.block ⟨2, ![128, 1024]⟩ ⟨2, ![1024, 1024]⟩ 0 8 c (product A B) (by decide)) (ix2 x y) := by
    refine (outAt_apply m c x y).trans (((result_block (product A B) c x y).trans ((product_apply A B _ y).trans
      (sum_by_device _))).trans ?_).symm
    refine Finset.sum_congr rfl fun j _ => Finset.sum_congr rfl fun k _ => ?_
    exact congrArg₂ (· * ·) ((congrFun (hA j) _).trans (left_block A j _ k)).symm
      ((congrFun (hB j) _).trans (right_block B j k y)).symm
  exact funext fun i => by rw [eq_ix2 i]; exact entry (i 0) (i 1)

end Cert.Value

end
-- ==== Proof.lean ====
/-
# The certificate

The kernel multiplies a left array, cut by columns over eight devices, by a right array, cut by rows over them, and
leaves each device with its own 128 rows of the product. This module assembles the claim from the run of the eight
devices (`Exchange.run_main`, once over words and once over the extended reals), from the equation of the two results
(`Value.outAt_eq_block`) and from the reference's run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel over words terminates without fault, keeps its arguments and ends with every counter at zero. -/
theorem frame_kernel : Cert.quiescent_Kernel := fun m ρ _ =>
  (θ_run Cert.Kernel.defs _ _).mono (fun _ h =>
    ⟨fun c => ⟨(h.1 c (0 : Fin 3)).trans (Cert.Kernel.Exchange.finalA_a m c),
      (h.1 c (1 : Fin 3)).trans (Cert.Kernel.Exchange.finalA_b m c)⟩, h.2⟩)
    (Cert.Kernel.Exchange.run_main m ρ)

/-- The kernel over the extended reals does the same. -/
theorem frame_kernelIdeal : Cert.quiescent_KernelIdeal := fun m ρ _ =>
  (θ_run Cert.KernelIdeal.defs _ _).mono (fun _ h =>
    ⟨fun c => ⟨(h.1 c (0 : Fin 3)).trans (Cert.KernelIdeal.Exchange.finalA_a m c),
      (h.1 c (1 : Fin 3)).trans (Cert.KernelIdeal.Exchange.finalA_b m c)⟩, h.2⟩)
    (Cert.KernelIdeal.Exchange.run_main m ρ)

/-- The reference over the extended reals terminates without fault and keeps its arguments; it has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- When the devices hold their blocks of the reference's arrays, device `c` ends with block `c` of the reference's
    product. -/
theorem kernel_computes_product : Cert.algebraic_KernelIdeal_ReferenceIdeal := fun m ρ m' ρ' _ h =>
  ⟨Cert.Value.product (m' (((0 : Dev Cert.ReferenceIdeal.nD).tc : Thread _ _).loc Cert.ReferenceIdeal.main_arg0))
      (m' (((0 : Dev Cert.ReferenceIdeal.nD).tc : Thread _ _).loc Cert.ReferenceIdeal.main_arg1)),
    (θ_run Cert.KernelIdeal.defs _ _).mono (fun _ hr c =>
      ⟨((hr.1 c (2 : Fin 3)).trans (Cert.KernelIdeal.Exchange.finalA_out m c)).trans
          (Cert.Value.outAt_eq_block m _ _ (fun j => (h j).1) (fun j => (h j).2) c),
        (hr.1 c (0 : Fin 3)).trans (Cert.KernelIdeal.Exchange.finalA_a m c),
        (hr.1 c (1 : Fin 3)).trans (Cert.KernelIdeal.Exchange.finalA_b m c)⟩)
      (Cert.KernelIdeal.Exchange.run_main m ρ),
    (θ_run Cert.ReferenceIdeal.defs _ _).mono (fun _ hr => hr 0) (Cert.ReferenceIdeal.Value.run m' ρ')⟩

/-- All five claims. -/
theorem claim : Cert.Claim :=
  ⟨Cert.Kernel.Gen.facts, Cert.KernelIdeal.Gen.facts, Cert.ReferenceIdeal.Gen.facts,
    frame_kernel, frame_kernelIdeal, frame_referenceIdeal, trivial, kernel_computes_product⟩

end Cert.Proof

end
